-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x256 : Shape := ⟨2, ![131072, 256]⟩
abbrev S256 : Shape := ⟨1, ![256]⟩
abbrev S1x256 : Shape := ⟨2, ![1, 256]⟩
abbrev S3x4096x256 : Shape := ⟨3, ![3, 4096, 256]⟩
abbrev S3 : Shape := ⟨1, ![3]⟩
abbrev S512x512 : Shape := ⟨2, ![512, 512]⟩
abbrev S1 : Shape := ⟨1, ![1]⟩
abbrev S_ : Shape := ⟨0, ![]⟩
abbrev S1x4096x256 : Shape := ⟨3, ![1, 4096, 256]⟩
abbrev S4096x256 : Shape := ⟨2, ![4096, 256]⟩
abbrev S1x1 : Shape := ⟨2, ![1, 1]⟩
abbrev S1x4096 : Shape := ⟨2, ![1, 4096]⟩
abbrev S512x256 : Shape := ⟨2, ![512, 256]⟩
abbrev S1x512 : Shape := ⟨2, ![1, 512]⟩
abbrev S512 : Shape := ⟨1, ![512]⟩
abbrev S512x1 : Shape := ⟨2, ![512, 1]⟩

abbrev nBuf : Space → Nat
  | .hbm => 5
  | .vmem => 4
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256, .f32⟩
  | .hbm, ⟨3, _⟩ => ⟨S1x256, .f32⟩
  | .hbm, ⟨4, _⟩ => ⟨S131072x256, .f32⟩
  | .local _ .vmem, ⟨0, _⟩ => ⟨S1x256, .f32⟩
  | .local _ .vmem, ⟨1, _⟩ => ⟨S3x4096x256, .f32⟩
  | .local _ .vmem, ⟨2, _⟩ => ⟨S3x4096x256, .f32⟩
  | .local _ .vmem, ⟨3, _⟩ => ⟨S3x4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_24 : BitVec 32 := 0#32
  let c32_i32 : BitVec 32 := 32#32
  let v28 : BitVec 32 := Scalar.addi c0_i32_24 c32_i32
  let c1_i32_25 : BitVec 32 := 1#32
  ⟨c0_i32_24, v28, c1_i32_25⟩
def k0_cond1 (k0_t1 : Fin k0_t1_loop.trips) : BitVec 1 :=
  let c0_i32_24 : BitVec 32 := 0#32
  let c1_i32_25 : BitVec 32 := 1#32
  let arg10 : BitVec 32 := Scf.iv c0_i32_24 c1_i32_25 k0_t1
  let c2_i32_42 : BitVec 32 := 2#32
  let v47 : BitVec 32 := Scalar.addi arg10 c2_i32_42
  let c32_i32_43 : BitVec 32 := 32#32
  let v48 : BitVec 1 := Scalar.cmpi .slt v47 c32_i32_43
  let v49 : BitVec 32 := Scalar.extui v48
  let c0_i32_44 : BitVec 32 := 0#32
  let v50 : BitVec 1 := Scalar.cmpi .ne v49 c0_i32_44
  v50

def k0_off1 (k0_t1 : Fin k0_t1_loop.trips) : Fin 1 → Nat :=
  let c0_i32_24 : BitVec 32 := 0#32
  let c1_i32_25 : BitVec 32 := 1#32
  let arg10 : BitVec 32 := Scf.iv c0_i32_24 c1_i32_25 k0_t1
  let c2_i32_160 : BitVec 32 := 2#32
  let v397 : BitVec 32 := Scalar.addi arg10 c2_i32_160
  let c3_i32_161 : BitVec 32 := 3#32
  let v398 : BitVec 32 := Scalar.remsi v397 c3_i32_161
  ![v398.toNat]
def k0_off2 (k0_t1 : Fin k0_t1_loop.trips) : Fin 3 → Nat :=
  let c0_i32_24 : BitVec 32 := 0#32
  let c1_i32_25 : BitVec 32 := 1#32
  let arg10 : BitVec 32 := Scf.iv c0_i32_24 c1_i32_25 k0_t1
  let c2_i32_160 : BitVec 32 := 2#32
  let v397 : BitVec 32 := Scalar.addi arg10 c2_i32_160
  let c3_i32_161 : BitVec 32 := 3#32
  let v398 : BitVec 32 := Scalar.remsi v397 c3_i32_161
  let c0_i32_163 : BitVec 32 := 0#32
  let c0_i32_164 : BitVec 32 := 0#32
  ![v398.toNat, 0, 0]
def k0_off3 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c2_i32_159 : BitVec 32 := 2#32
  let v396 : BitVec 32 := Scalar.addi arg10 c2_i32_159
  let c4096_i32_162 : BitVec 32 := 4096#32
  let v399 : BitVec 32 := Scalar.muli v396 c4096_i32_162
  let c0_i32_165 : BitVec 32 := 0#32
  ![v399.toNat, 0]
def k0_off4 (k0_t1 : Fin k0_t1_loop.trips) : Fin 1 → Nat :=
  let c0_i32_24 : BitVec 32 := 0#32
  let c1_i32_25 : BitVec 32 := 1#32
  let arg10 : BitVec 32 := Scf.iv c0_i32_24 c1_i32_25 k0_t1
  let c3_i32 : BitVec 32 := 3#32
  let v45 : BitVec 32 := Scalar.remsi arg10 c3_i32
  ![v45.toNat]
def k0_off5 (k0_t1 : Fin k0_t1_loop.trips) : Fin 3 → Nat :=
  let c0_i32_24 : BitVec 32 := 0#32
  let c1_i32_25 : BitVec 32 := 1#32
  let arg10 : BitVec 32 := Scf.iv c0_i32_24 c1_i32_25 k0_t1
  let c3_i32 : BitVec 32 := 3#32
  let v45 : BitVec 32 := Scalar.remsi arg10 c3_i32
  let c0_i32_46 : BitVec 32 := 0#32
  let c0_i32_47 : BitVec 32 := 0#32
  ![v45.toNat, 0, 0]
def k0_off6 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c4096_i32_45 : BitVec 32 := 4096#32
  let v51 : BitVec 32 := Scalar.muli arg10 c4096_i32_45
  let c0_i32_48 : BitVec 32 := 0#32
  ![v51.toNat, 0]
def k0_cond2 (k0_t1 : Fin k0_t1_loop.trips) : BitVec 1 :=
  let c0_i32_24 : BitVec 32 := 0#32
  let c1_i32_25 : BitVec 32 := 1#32
  let arg10 : BitVec 32 := Scf.iv c0_i32_24 c1_i32_25 k0_t1
  let c3_i32_53 : BitVec 32 := 3#32
  let v63 : BitVec 1 := Scalar.cmpi .sge arg10 c3_i32_53
  let v64 : BitVec 32 := Scalar.extui v63
  let c0_i32_54 : BitVec 32 := 0#32
  let v65 : BitVec 1 := Scalar.cmpi .ne v64 c0_i32_54
  v65

def k0_off7 (k0_t1 : Fin k0_t1_loop.trips) : Fin 1 → Nat :=
  let c0_i32_24 : BitVec 32 := 0#32
  let c1_i32_25 : BitVec 32 := 1#32
  let arg10 : BitVec 32 := Scf.iv c0_i32_24 c1_i32_25 k0_t1
  let c3_i32_41 : BitVec 32 := 3#32
  let v46 : BitVec 32 := Scalar.remsi arg10 c3_i32_41
  ![v46.toNat]
def k0_off8 (k0_t1 : Fin k0_t1_loop.trips) : Fin 2 → Nat :=
  let c0_i32_24 : BitVec 32 := 0#32
  let c1_i32_25 : BitVec 32 := 1#32
  let arg10 : BitVec 32 := Scf.iv c0_i32_24 c1_i32_25 k0_t1
  let c3_i32_159 : BitVec 32 := 3#32
  let v396 : BitVec 32 := Scalar.subi arg10 c3_i32_159
  let c4096_i32_160 : BitVec 32 := 4096#32
  let v397 : BitVec 32 := Scalar.muli v396 c4096_i32_160
  let c0_i32_161 : BitVec 32 := 0#32
  ![v397.toNat, 0]
def k0_off9 (k0_t1 : Fin k0_t1_loop.trips) : Fin 3 → Nat :=
  let c0_i32_24 : BitVec 32 := 0#32
  let c1_i32_25 : BitVec 32 := 1#32
  let arg10 : BitVec 32 := Scf.iv c0_i32_24 c1_i32_25 k0_t1
  let c3_i32_41 : BitVec 32 := 3#32
  let v46 : BitVec 32 := Scalar.remsi arg10 c3_i32_41
  let c0_i32_162 : BitVec 32 := 0#32
  let c0_i32_163 : BitVec 32 := 0#32
  ![v46.toNat, 0, 0]
def k0_off10 (k0_t1 : Fin k0_t1_loop.trips) : Fin 3 → Nat :=
  let c0_i32_24 : BitVec 32 := 0#32
  let c1_i32_25 : BitVec 32 := 1#32
  let arg10 : BitVec 32 := Scf.iv c0_i32_24 c1_i32_25 k0_t1
  let c3_i32 : BitVec 32 := 3#32
  let v45 : BitVec 32 := Scalar.remsi arg10 c3_i32
  let v66 : Index := Scalar.indexCast v45
  let c0_55 : Index := 0#32
  let c0_56 : Index := 0#32
  ![v66.toNat, 0, 0]
abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S131072x256 : Shape := ⟨2, ![131072, 256]⟩
abbrev S256 : Shape := ⟨1, ![256]⟩
abbrev S131072 : Shape := ⟨1, ![131072]⟩
abbrev S_ : Shape := ⟨0, ![]⟩
abbrev S131072x131072 : Shape := ⟨2, ![131072, 131072]⟩
abbrev S1x131072 : Shape := ⟨2, ![1, 131072]⟩
abbrev S131072x1 : Shape := ⟨2, ![131072, 1]⟩

abbrev nBuf : Space → Nat
  | .hbm => 26
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S256, .f32⟩
  | .hbm, ⟨3, _⟩ => ⟨S131072, .f32⟩
  | .hbm, ⟨4, _⟩ => ⟨S_, .f32⟩
  | .hbm, ⟨5, _⟩ => ⟨S_, .f32⟩
  | .hbm, ⟨6, _⟩ => ⟨S131072, .f32⟩
  | .hbm, ⟨7, _⟩ => ⟨S131072x131072, .i32⟩
  | .hbm, ⟨8, _⟩ => ⟨S131072x131072, .i32⟩
  | .hbm, ⟨9, _⟩ => ⟨S131072x131072, .i1⟩
  | .hbm, ⟨10, _⟩ => ⟨S1x131072, .f32⟩
  | .hbm, ⟨11, _⟩ => ⟨S131072x1, .f32⟩
  | .hbm, ⟨12, _⟩ => ⟨S131072x131072, .f32⟩
  | .hbm, ⟨13, _⟩ => ⟨S131072x131072, .f32⟩
  | .hbm, ⟨14, _⟩ => ⟨S131072x131072, .f32⟩
  | .hbm, ⟨15, _⟩ => ⟨S131072x131072, .f32⟩
  | .hbm, ⟨16, _⟩ => ⟨S_, .f32⟩
  | .hbm, ⟨17, _⟩ => ⟨S_, .f32⟩
  | .hbm, ⟨18, _⟩ => ⟨S131072x131072, .f32⟩
  | .hbm, ⟨19, _⟩ => ⟨S131072x131072, .f32⟩
  | .hbm, ⟨20, _⟩ => ⟨S_, .f32⟩
  | .hbm, ⟨21, _⟩ => ⟨S131072, .f32⟩
  | .hbm, ⟨22, _⟩ => ⟨S131072x256, .f32⟩
  | .hbm, ⟨23, _⟩ => ⟨S131072x1, .f32⟩
  | .hbm, ⟨24, _⟩ => ⟨S131072x256, .f32⟩
  | .hbm, ⟨25, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Names.lean ====
/-
  Names for the parts of memory the kernel's copies move: the 32 blocks of 4096 rows of an array held in HBM, the three
  slots of a buffer in VMEM, and the three semaphores that count the copies of a slot. The kernel's text slices each of
  them out at offsets computed from the trip; the equations below say which block, slot and semaphore each slice is.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Scan

open Cert.KernelIdeal Cert.KernelIdeal.Gen
open Idealize.ShloMosaic
open Idealize.ShloMosaic.TcCoe Idealize.ShloMosaic.Tactic

/-- Where block `b` of an array starts. -/
abbrev rowOff (b : Fin 32) : Fin 2 → Nat := ![4096 * b.val, 0]
theorem rowOff_inb (b : Fin 32) : ∀ a, rowOff b a + S4096x256.size a ≤ S131072x256.size a := by
  have := b.isLt; intro a; fin_cases a
  · show 4096 * b.val + 4096 ≤ 131072; omega
  · show 0 + 256 ≤ 256; omega
/-- Where slot `s` of a buffer starts. -/
abbrev slotOff (s : Fin 3) : Fin 3 → Nat := ![s.val, 0, 0]
theorem slotOff_inb (s : Fin 3) : ∀ a, slotOff s a + S1x4096x256.size a ≤ S3x4096x256.size a := by
  have := s.isLt; intro a; fin_cases a
  · show s.val + 1 ≤ 3; omega
  · show 0 + 4096 ≤ 4096; omega
  · show 0 + 256 ≤ 256; omega
/-- Where semaphore `s` of an array of three is. -/
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Block `b` of the array `A`. -/
def blockOf (A : Memref sig .tc .hbm S131072x256 .f32) (b : Fin 32) : Memref sig .tc .hbm S4096x256 .f32 :=
  A.slice (Rect.unit (s := S131072x256) (rowOff b) S4096x256.size (rowOff_inb b)) (fun _ => rfl)
/-- Slot `s` of the buffer `B`. -/
def slotOf (B : Memref sig .tc .vmem S3x4096x256 .f32) (s : Fin 3) : Memref sig .tc .vmem S4096x256 .f32 :=
  (B.slice (Rect.unit (s := S3x4096x256) (slotOff s) S1x4096x256.size (slotOff_inb s)) (fun _ => rfl)).squeeze S4096x256 squeezes_S1x4096x256_S4096x256
/-- Semaphore `s` of the array `C`. -/
def semOf (C : DmaSems sig S3) (s : Fin 3) : DmaSems sig S_ :=
  (C.slice (Rect.unit (s := S3) (semOff s) S1.size (semOff_inb s))).squeeze S_ squeezes_S1_S_

instance (b : Fin 32) : ClosedOff (rowOff b) := ⟨rowOff b, rfl⟩
instance (s : Fin 3) : ClosedOff (slotOff s) := ⟨slotOff s, rfl⟩

theorem trips_eq : k0_t1_loop.trips = 32 := by decide
theorem trip_lt (k : Fin k0_t1_loop.trips) : k.val < 32 := Nat.lt_of_lt_of_eq k.isLt trips_eq
theorem sl_val (n : ℕ) : (Ring.sl 3 n).val = n % 3 := by simp [Ring.sl, Fin.ofNat]

/-- The trip's first branch is taken while a block two ahead is left; -/
theorem cond1_iff : ∀ k : Fin k0_t1_loop.trips, k0_cond1 k = 1#1 ↔ k.val + 2 < 32 := by decide +kernel
/-- its second branch from the fourth trip on. -/
theorem cond2_iff : ∀ k : Fin k0_t1_loop.trips, k0_cond2 k = 1#1 ↔ 3 ≤ k.val := by decide +kernel

theorem off1_at (k : Fin k0_t1_loop.trips) : k0_off1 k = semOff (Ring.sl 3 (k.val + 2)) := by
  rw [k0_off1_eq, semOff, sl_val]
theorem off2_at (k : Fin k0_t1_loop.trips) : k0_off2 k = slotOff (Ring.sl 3 (k.val + 2)) := by
  rw [k0_off2_eq, slotOff, sl_val]
theorem off3_at (k : Fin k0_t1_loop.trips) (h : k0_cond1 k = 1#1) : k0_off3 k = rowOff (Ring.bk 32 (k.val + 2)) := by
  rw [k0_off3_eq, rowOff, Ring.bk_val ((cond1_iff k).mp h)]; congr 1
theorem off4_at (k : Fin k0_t1_loop.trips) : k0_off4 k = semOff (Ring.sl 3 k.val) := by
  rw [k0_off4_eq, semOff, sl_val]
theorem off5_at (k : Fin k0_t1_loop.trips) : k0_off5 k = slotOff (Ring.sl 3 k.val) := by
  rw [k0_off5_eq, slotOff, sl_val]
theorem off6_at (k : Fin k0_t1_loop.trips) : k0_off6 k = rowOff (Ring.bk 32 k.val) := by
  rw [k0_off6_eq, rowOff, Ring.bk_val (trip_lt k)]
theorem off7_at (k : Fin k0_t1_loop.trips) : k0_off7 k = semOff (Ring.sl 3 k.val) := by
  rw [k0_off7_eq, semOff, sl_val]
theorem off8_lit : ∀ k : Fin k0_t1_loop.trips, k0_cond2 k = 1#1 → k0_off8 k = ![4096 * (k.val - 3), 0] := by decide +kernel
theorem off8_at (k : Fin k0_t1_loop.trips) (h : k0_cond2 k = 1#1) : k0_off8 k = rowOff (Ring.bk 32 (k.val - 3)) := by
  rw [off8_lit k h, rowOff, Ring.bk_val (Nat.lt_of_le_of_lt (Nat.sub_le _ _) (trip_lt k))]
theorem off9_at (k : Fin k0_t1_loop.trips) : k0_off9 k = slotOff (Ring.sl 3 k.val) := by
  rw [k0_off9_eq, slotOff, sl_val]
theorem off10_at (k : Fin k0_t1_loop.trips) : k0_off10 k = slotOff (Ring.sl 3 k.val) := by
  rw [k0_off10_eq, slotOff, sl_val]

/-- The box of the load that reads a whole slot through its buffer. -/
instance (k : Fin k0_t1_loop.trips) : ClosedOff (k0_off10 k) := ⟨slotOff (Ring.sl 3 k.val), off10_at k⟩

theorem semOf_congr {C : DmaSems sig S3} {off : Fin 1 → Nat} {s : Fin 3} (e : off = semOff s) (hh) :
    (C.slice (Rect.unit (s := S3) off S1.size hh)).squeeze S_ squeezes_S1_S_ = semOf C s :=
  congrArg (fun A : DmaSems sig S1 => A.squeeze S_ squeezes_S1_S_) (SemArray.slice_unit_congr _ e _ _)
theorem slotOf_congr {B : Memref sig .tc .vmem S3x4096x256 .f32} {off : Fin 3 → Nat} {s : Fin 3} (e : off = slotOff s) (hh hs) :
    (B.slice (Rect.unit (s := S3x4096x256) off S1x4096x256.size hh) hs).squeeze S4096x256 squeezes_S1x4096x256_S4096x256 = slotOf B s :=
  congrArg (fun M : Memref sig .tc .vmem S1x4096x256 .f32 => M.squeeze S4096x256 squeezes_S1x4096x256_S4096x256) (Memref.slice_unit_congr _ e _ _ _ _)
theorem blockOf_congr {A : Memref sig .tc .hbm S131072x256 .f32} {off : Fin 2 → Nat} {b : Fin 32} (e : off = rowOff b) (hh hs) :
    A.slice (Rect.unit (s := S131072x256) off S4096x256.size hh) hs = blockOf A b :=
  Memref.slice_unit_congr _ e _ _ _ (fun _ => rfl)

section Literal
variable (A : Memref sig .tc .hbm S131072x256 .f32) (B : Memref sig .tc .vmem S3x4096x256 .f32) (C : DmaSems sig S3)

@[sl_canon] theorem sem_0 (hh) : (C.slice (Rect.unit (s := S3) ![0] S1.size hh)).squeeze S_ squeezes_S1_S_ = semOf C 0 := semOf_congr (by decide) _
@[sl_canon] theorem sem_1 (hh) : (C.slice (Rect.unit (s := S3) ![1] S1.size hh)).squeeze S_ squeezes_S1_S_ = semOf C 1 := semOf_congr (by decide) _
@[sl_canon] theorem sem_2 (hh) : (C.slice (Rect.unit (s := S3) ![2] S1.size hh)).squeeze S_ squeezes_S1_S_ = semOf C 2 := semOf_congr (by decide) _
@[sl_canon] theorem slot_0 (hh hs) : (B.slice (Rect.unit (s := S3x4096x256) ![0, 0, 0] S1x4096x256.size hh) hs).squeeze S4096x256 squeezes_S1x4096x256_S4096x256 = slotOf B 0 := slotOf_congr (by decide) _ _
@[sl_canon] theorem slot_1 (hh hs) : (B.slice (Rect.unit (s := S3x4096x256) ![1, 0, 0] S1x4096x256.size hh) hs).squeeze S4096x256 squeezes_S1x4096x256_S4096x256 = slotOf B 1 := slotOf_congr (by decide) _ _
@[sl_canon] theorem slot_2 (hh hs) : (B.slice (Rect.unit (s := S3x4096x256) ![2, 0, 0] S1x4096x256.size hh) hs).squeeze S4096x256 squeezes_S1x4096x256_S4096x256 = slotOf B 2 := slotOf_congr (by decide) _ _
@[sl_canon] theorem block_0 (hh hs) : A.slice (Rect.unit (s := S131072x256) ![0, 0] S4096x256.size hh) hs = blockOf A 0 := blockOf_congr (by decide) _ _
@[sl_canon] theorem block_1 (hh hs) : A.slice (Rect.unit (s := S131072x256) ![4096, 0] S4096x256.size hh) hs = blockOf A 1 := blockOf_congr (by decide) _ _
@[sl_canon] theorem block_29 (hh hs) : A.slice (Rect.unit (s := S131072x256) ![118784, 0] S4096x256.size hh) hs = blockOf A 29 := blockOf_congr (by decide) _ _
@[sl_canon] theorem block_30 (hh hs) : A.slice (Rect.unit (s := S131072x256) ![122880, 0] S4096x256.size hh) hs = blockOf A 30 := blockOf_congr (by decide) _ _
@[sl_canon] theorem block_31 (hh hs) : A.slice (Rect.unit (s := S131072x256) ![126976, 0] S4096x256.size hh) hs = blockOf A 31 := blockOf_congr (by decide) _ _

end Literal

section Trip
variable (A : Memref sig .tc .hbm S131072x256 .f32) (B : Memref sig .tc .vmem S3x4096x256 .f32) (C : DmaSems sig S3) (k : Fin k0_t1_loop.trips)

@[sl_canon] theorem sem_ahead (hh) : (C.slice (Rect.unit (s := S3) (k0_off1 k) S1.size hh)).squeeze S_ squeezes_S1_S_ = semOf C (Ring.sl 3 (k.val + 2)) := semOf_congr (off1_at k) _
@[sl_canon] theorem slot_ahead (hh hs) : (B.slice (Rect.unit (s := S3x4096x256) (k0_off2 k) S1x4096x256.size hh) hs).squeeze S4096x256 squeezes_S1x4096x256_S4096x256 = slotOf B (Ring.sl 3 (k.val + 2)) := slotOf_congr (off2_at k) _ _
@[sl_canon] theorem block_ahead (h : k0_cond1 k = 1#1) (hh hs) : A.slice (Rect.unit (s := S131072x256) (k0_off3 k) S4096x256.size hh) hs = blockOf A (Ring.bk 32 (k.val + 2)) := blockOf_congr (off3_at k h) _ _
@[sl_canon] theorem sem_here (hh) : (C.slice (Rect.unit (s := S3) (k0_off4 k) S1.size hh)).squeeze S_ squeezes_S1_S_ = semOf C (Ring.sl 3 k.val) := semOf_congr (off4_at k) _
@[sl_canon] theorem slot_here (hh hs) : (B.slice (Rect.unit (s := S3x4096x256) (k0_off5 k) S1x4096x256.size hh) hs).squeeze S4096x256 squeezes_S1x4096x256_S4096x256 = slotOf B (Ring.sl 3 k.val) := slotOf_congr (off5_at k) _ _
@[sl_canon] theorem block_here (hh hs) : A.slice (Rect.unit (s := S131072x256) (k0_off6 k) S4096x256.size hh) hs = blockOf A (Ring.bk 32 k.val) := blockOf_congr (off6_at k) _ _
@[sl_canon] theorem sem_out (hh) : (C.slice (Rect.unit (s := S3) (k0_off7 k) S1.size hh)).squeeze S_ squeezes_S1_S_ = semOf C (Ring.sl 3 k.val) := semOf_congr (off7_at k) _
@[sl_canon] theorem block_out (h : k0_cond2 k = 1#1) (hh hs) : A.slice (Rect.unit (s := S131072x256) (k0_off8 k) S4096x256.size hh) hs = blockOf A (Ring.bk 32 (k.val - 3)) := blockOf_congr (off8_at k h) _ _
@[sl_canon] theorem slot_out (hh hs) : (B.slice (Rect.unit (s := S3x4096x256) (k0_off9 k) S1x4096x256.size hh) hs).squeeze S4096x256 squeezes_S1x4096x256_S4096x256 = slotOf B (Ring.sl 3 k.val) := slotOf_congr (off9_at k) _ _

end Trip

end Cert.Proof.Scan

end

end
-- ==== Proof.Step.lean ====
/-
  One trip of the kernel's loop as a function: from what the trips before carried and from one block of keys and values,
  the 4096 rows of the result it writes and what it carries on. A trip works through its block in eight chunks of 512 rows,
  and every chunk is the same function of its scores, its values and the carry.
-/
module

public import proofs.«01_k».proof.Proof.Names
public import Idealize.ShloMosaic.Lib.WritesUnit

@[expose] public section

noncomputable section

namespace Cert.Proof.Scan

open Cert.KernelIdeal Cert.KernelIdeal.Gen
open Idealize.ShloMosaic

variable {F : FTy → Type} [FloatOps F]

/-- What one chunk hands the next: the maximum so far, the sum of weights and the weighted sum of values. -/
abbrev Carry (F : FTy → Type) : Type := FVec F S1x1 .f32 × FVec F S1x1 .f32 × FVec F S1x256 .f32

/-- The scores of a block: the query against each of its 4096 keys. -/
def blockScores (qv : FVec F S1x256 .f32) (kb : FVec F S4096x256 .f32) : FVec F S1x4096 .f32 :=
  matmul dot_S1x256_S4096x256_S1x4096_1_1_0_0_n_n none qv kb (constant S1x4096 .f32 0x00000000#32)

theorem chunk_slices (i : Fin 8) : S1x4096.Slices ![0, 512 * i.val] S1x512 := by
  revert i; decide

/-- The scores of chunk `i`, repeated over 512 rows. -/
def chunkScores (sr : FVec F S1x4096 .f32) (i : Fin 8) : FVec F S512x512 .f32 :=
  broadcastTo S512x512 (shapeCast S1x512 (extractStridedSlice S1x512 ![0, 512 * i.val] sr (chunk_slices i)) shapeCasts_S1x512_S1x512) broadcasts_S1x512_S512x512

/-- The values of chunk `i`. -/
def chunkRows (vb : FVec F S4096x256 .f32) (i : Fin 8) : FVec F S512x256 .f32 :=
  fun x => vb (Shape.pair (d := S4096x256.size) ⟨512 * i.val + (x 0).val, by have := i.isLt; have : (x 0).val < 512 := (x 0).isLt; show _ < 4096; omega⟩ (x 1))

/-- What chunk `i` carries on. -/
def chunkNext (tri : IVec S512x512 1) (s : FVec F S512x512 .f32) (v : FVec F S512x256 .f32) (a : Carry F) : Carry F :=
  (k0_pay11 tri a.1 s k0_pay4, k0_pay12 tri a.1 a.2.1 s k0_pay4, k0_pay13 tri a.1 a.2.2 v s k0_pay4)

/-- The rows chunk `i` writes. -/
def chunkOut (tri : IVec S512x512 1) (s : FVec F S512x512 .f32) (v : FVec F S512x256 .f32) (a : Carry F) : FVec F S512x256 .f32 :=
  k0_pay10 tri a.1 a.2.1 a.2.2 v s k0_pay4

/-- What is carried into chunk `n` of a block. -/
def carryIn (tri : IVec S512x512 1) (s : Fin 8 → FVec F S512x512 .f32) (v : Fin 8 → FVec F S512x256 .f32) (a : Carry F) : ℕ → Carry F
  | 0 => a
  | n + 1 => chunkNext tri (s (Fin.ofNat 8 n)) (v (Fin.ofNat 8 n)) (carryIn tri s v a n)

/-- The block of the result a trip writes: row `512 i + r` is row `r` of chunk `i`. -/
def outBlock (tri : IVec S512x512 1) (s : Fin 8 → FVec F S512x512 .f32) (v : Fin 8 → FVec F S512x256 .f32) (a : Carry F) : FVec F S4096x256 .f32 :=
  fun y =>
    have hy : (y 0).val < 4096 := (y 0).isLt
    chunkOut tri (s ⟨(y 0).val / 512, by omega⟩) (v ⟨(y 0).val / 512, by omega⟩) (carryIn tri s v a ((y 0).val / 512))
      (Shape.pair (d := S512x256.size) ⟨(y 0).val % 512, Nat.mod_lt _ (by decide)⟩ (y 1))

/-! ### What the copies and the loads of a trip read -/

section Reads
variable {sig' : RefSig} {κ : Kind} {sp : Space}

/-- A slot filled by one copy reads what was copied. -/
theorem read_filled {s : Shape} (v : View sig' κ sp s .f32) (f : v.ty.Contents (Elt F)) (p : s.Idx → Elt F .f32) :
    v.read (Elt F) (v.writes (Elt F) f [⟨Rect.whole s, p⟩]) = p :=
  View.read_writes_whole v f p

theorem chunkOff_inb (i : Fin 8) : ∀ a, (![512 * i.val, 0] : Fin 2 → ℕ) a + S512x256.size a ≤ S4096x256.size a := by
  have := i.isLt; intro a; fin_cases a
  · show 512 * i.val + 512 ≤ 4096; omega
  · show 0 + 256 ≤ 256; omega

/-- A load of the rows of chunk `i` from a filled slot reads the values of that chunk. -/
theorem readCov_chunk (v : View sig' κ sp S4096x256 .f32) (p : S4096x256.Idx → Elt F .f32) (i : Fin 8)
    {off : Fin 2 → ℕ} (inb : ∀ a, off a + S512x256.size a ≤ S4096x256.size a) (h : off = ![512 * i.val, 0]) :
    v.readCov [⟨Rect.whole S4096x256, p⟩] (Rect.unit (s := S4096x256) off S512x256.size inb).toLoadRect = chunkRows (F := F) p i := by
  subst h
  funext x
  unfold View.readCov
  rw [View.readAt_apply, read_filled]
  unfold chunkRows
  congr 1
  funext a
  apply Fin.ext
  fin_cases a
  · show 512 * i.val + 1 * (x 0).val = 512 * i.val + (x 0).val; omega
  · show 0 + 1 * (x 1).val = (x 1).val; omega

/-- The eight stores of a trip, the last one first. -/
abbrev stores (P : Fin 8 → FVec F S512x256 .f32) : List (View.Piece (Elt F) S4096x256 .f32) :=
  View.tilePieces (s := S4096x256) S512x256.size (fun i : Fin 8 => ![512 * i.val, 0]) chunkOff_inb P 8 (le_refl 8)

/-- Eight stores of 512 rows each fill a slot. -/
theorem read_stores (v : View sig' κ sp S4096x256 .f32) (f : v.ty.Contents (Elt F)) (P : Fin 8 → FVec F S512x256 .f32) :
    v.read (Elt F) (v.writes (Elt F) f (stores P)) = fun (y : S4096x256.Idx) =>
      have hy : (y 0).val < 4096 := (y 0).isLt
      P ⟨(y 0).val / 512, by omega⟩ (Shape.pair (d := S512x256.size) ⟨(y 0).val % 512, Nat.mod_lt _ (by decide)⟩ (y 1)) := by
  funext y
  have hy : (y 0).val < 4096 := (y 0).isLt
  refine View.read_tilePieces v f S512x256.size _ chunkOff_inb P 8 (le_refl 8) y ⟨(y 0).val / 512, by omega⟩ (by show (y 0).val / 512 < 8; omega) _ ?_ 0 ?_
  · intro a
    fin_cases a
    · show (y 0).val = 512 * ((y 0).val / 512) + (y 0).val % 512; omega
    · show (y 1).val = 0 + (y 1).val; omega
  · intro i' hi'
    have hne : i'.val ≠ (y 0).val / 512 := fun h => hi' (Fin.ext h)
    show (y 0).val < 512 * i'.val ∨ 512 * i'.val + 512 ≤ (y 0).val
    omega

end Reads

/-- The keys a trip's one load of its slot reads are those copied into the slot. -/
theorem keys_read (k : Fin k0_t1_loop.trips) (p : S4096x256.Idx → Elt F .f32)
    (inb : ∀ a, k0_off10 k a + S1x4096x256.size a ≤ S3x4096x256.size a)
    (B : Memref sig .tc .vmem S3x4096x256 .f32) (f : B.view.ty.Contents (Elt F)) :
    shapeCast S4096x256 (View.readAt (Elt F) B.view (Rect.unit (s := S3x4096x256) (k0_off10 k) S1x4096x256.size inb).toLoadRect
      ((slotOf B (Ring.sl 3 k.val)).view.writes (Elt F) f [⟨Rect.whole S4096x256, p⟩])) shapeCasts_S1x4096x256_S4096x256 = p := by
  have key : ∀ (off : Fin 3 → ℕ) (h : off = slotOff (Ring.sl 3 k.val)) (inb : ∀ a, off a + S1x4096x256.size a ≤ S3x4096x256.size a)
      (g : B.view.ty.Contents (Elt F)),
      shapeCast S4096x256 (View.readAt (Elt F) B.view (Rect.unit (s := S3x4096x256) off S1x4096x256.size inb).toLoadRect g) shapeCasts_S1x4096x256_S4096x256
        = (slotOf B (Ring.sl 3 k.val)).view.read (Elt F) g := by
    intro off h inb g
    subst h
    rfl
  exact (key _ (off10_at k) inb _).trans (read_filled _ _ _)

end Cert.Proof.Scan

end

end
-- ==== Proof.Trip.lean ====
module

public import proofs.«01_k».proof.Proof.Step

@[expose] public section

noncomputable section

namespace Cert.Proof.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev 𝒱₀ : Variants := Variants.none

abbrev aK : Memref sig .tc .hbm S131072x256 .f32 := Memref.whole main_arg0
abbrev aV : Memref sig .tc .hbm S131072x256 .f32 := Memref.whole main_arg1
abbrev aO : Memref sig .tc .hbm S131072x256 .f32 := Memref.whole main_v1
abbrev bK : Memref sig .tc .vmem S3x4096x256 .f32 := Memref.whole cc0_scratch0
abbrev bV : Memref sig .tc .vmem S3x4096x256 .f32 := Memref.whole cc0_scratch1
abbrev bO : Memref sig .tc .vmem S3x4096x256 .f32 := Memref.whole cc0_scratch2

section Pieces
variable (c : Dev nD)

abbrev cellP (C : DmaSems sig S3) (s : Fin 3) : sProp 𝕄 := semVal ((c : Thread nD τ), SemLoc.dma (semOf C s).sem) 0
abbrev slotP (B : Memref sig .tc .vmem S3x4096x256 .f32) (s : Fin 3) (f : Buf (Elt F) (B.view.loc (c : Thread nD τ))) : sProp 𝕄 :=
  (slotOf B s).view.loc (c : Thread nD τ) ↦[(slotOf B s).view.set]{fullShare} f
abbrev homeP (A : Memref sig .tc .hbm S131072x256 .f32) (X : Buf (Elt F) (A.view.loc (c : Thread nD τ))) (b : Fin 32) : sProp 𝕄 :=
  (blockOf A b).view.loc (c : Thread nD τ) ↦[(blockOf A b).view.set]{fullShare} X
abbrev payload (A : Memref sig .tc .hbm S131072x256 .f32) (X : Buf (Elt F) (A.view.loc (c : Thread nD τ))) (b : Fin 32) : S4096x256.Idx → Elt F .f32 :=
  ReadAs.same.apply ((blockOf A b).view.read (Elt F) X)
abbrev landed (A : Memref sig .tc .hbm S131072x256 .f32) (B : Memref sig .tc .vmem S3x4096x256 .f32)
    (X : Buf (Elt F) (A.view.loc (c : Thread nD τ))) (s : Fin 3) (b : Fin 32) (f : Buf (Elt F) (B.view.loc (c : Thread nD τ))) :
    Buf (Elt F) (B.view.loc (c : Thread nD τ)) :=
  (slotOf B s).view.writes (Elt F) f [⟨Rect.whole S4096x256, payload c A X b⟩]
abbrev flightP (A : Memref sig .tc .hbm S131072x256 .f32) (B : Memref sig .tc .vmem S3x4096x256 .f32) (C : DmaSems sig S3)
    (X : Buf (Elt F) (A.view.loc (c : Thread nD τ))) (s : Fin 3) (b : Fin 32) (f : Buf (Elt F) (B.view.loc (c : Thread nD τ))) : sProp 𝕄 :=
  Transfers.Flight countersEmb (c : Thread nD τ) (SemLoc.dma (semOf C s).sem) () 131072 iprop(slotP c B s (landed c A B X s b f) ∗ homeP c A X b)
abbrev outFlight (s : Fin 3) (b : Fin 32) (fs : Buf (Elt F) (bO.view.loc (c : Thread nD τ))) (fd : Buf (Elt F) (aO.view.loc (c : Thread nD τ))) : sProp 𝕄 :=
  Transfers.Flight countersEmb (c : Thread nD τ) (SemLoc.dma (semOf cc0_scratch5 s).sem) () 131072 iprop(homeP c aO fd b ∗ slotP c bO s fs)

end Pieces

section Trip
variable (c : Dev nD) (XK : Buf (Elt F) (aK.view.loc (c : Thread nD τ))) (XV : Buf (Elt F) (aV.view.loc (c : Thread nD τ)))
  (arg0 : Memref sig .tc .vmem S1x256 .f32) (harg0 : arg0.IsWhole)
  (v2 : IVec S512x512 1) (v4 : FVec F S1x256 .f32)

abbrev tripG (k : Fin k0_t1_loop.trips) (acc : FVec F S1x1 .f32 × FVec F S1x1 .f32 × FVec F S1x256 .f32) :=
  k0_t1_body (F := F) arg0 harg0 aK (Memref.isWhole_whole _) aV (Memref.isWhole_whole _) aO (Memref.isWhole_whole _)
    bK (Memref.isWhole_whole _) bV (Memref.isWhole_whole _) bO (Memref.isWhole_whole _) cc0_scratch3 cc0_scratch4 cc0_scratch5 v2 v4 k acc

/-- The keys a trip loads from the slot its block was copied into. -/
abbrev keysRead (k : Fin k0_t1_loop.trips) : Vec F S1x4096x256 .f32 :=
  View.readAt (Elt F) bK.view (Rect.unit (s := S3x4096x256) (k0_off10 k) S1x4096x256.size (k0_off10_inb k)).toLoadRect
    ((slotOf bK (Ring.sl 3 k.val)).view.writes (Elt F) (slotOf bK (Ring.sl 3 k.val)).view.junk [⟨Rect.whole S4096x256, payload c aK XK (Ring.bk 32 k.val)⟩])
/-- The values of chunk `i` a trip loads from the slot its block was copied into. -/
abbrev rowsRead (k : Fin k0_t1_loop.trips) (i : Fin 8) : FVec F S512x256 .f32 :=
  (slotOf bV (Ring.sl 3 k.val)).view.readCov [⟨Rect.whole S4096x256, payload c aV XV (Ring.bk 32 k.val)⟩]
    (Rect.unit (s := S4096x256) ![512 * i.val, 0] S512x256.size (chunkOff_inb i)).toLoadRect

/-- The scores and the values of block `b`, chunk by chunk. -/
abbrev scoresOf (b : Fin 32) (i : Fin 8) : FVec F S512x512 .f32 := chunkScores (blockScores v4 (payload c aK XK b)) i
abbrev valuesOf (b : Fin 32) (i : Fin 8) : FVec F S512x256 .f32 := chunkRows (payload c aV XV b) i
/-- What the trip at block `b` carries on, and the block of the result it writes. -/
abbrev nextOf (b : Fin 32) (a : Carry F) : Carry F := carryIn v2 (scoresOf c XK v4 b) (valuesOf c XV b) a 8
abbrev outOf (b : Fin 32) (a : Carry F) : FVec F S4096x256 .f32 := outBlock v2 (scoresOf c XK v4 b) (valuesOf c XV b) a

theorem scores_read (k : Fin k0_t1_loop.trips) : chunkScores (k0_pay2 v4 (keysRead c XK k)) = scoresOf c XK v4 (Ring.bk 32 k.val) := by
  have e : k0_pay2 v4 (keysRead c XK k) = blockScores v4 (payload c aK XK (Ring.bk 32 k.val)) :=
    congrArg (blockScores v4) (keys_read k _ (k0_off10_inb k) bK _)
  rw [e]
theorem values_read (k : Fin k0_t1_loop.trips) : rowsRead c XV k = valuesOf c XV (Ring.bk 32 k.val) :=
  funext fun i => readCov_chunk (F := F) _ _ i _ rfl

/-- Block `b` of the result, on its way out of slot `s`, holds `v`. -/
abbrev outP (s : Fin 3) (b : Fin 32) (v : FVec F S4096x256 .f32) : sProp 𝕄 :=
  iprop(∃ fs fd, ⌜(blockOf aO b).view.read (Elt F) fd = v⌝ ∗ outFlight c s b fs fd)
/-- Block `b` of the result is written: it holds `v`. -/
abbrev doneP (b : Fin 32) (v : FVec F S4096x256 .f32) : sProp 𝕄 :=
  iprop(∃ fd, ⌜(blockOf aO b).view.read (Elt F) fd = v⌝ ∗ homeP c aO fd b)

/-- A trip in the middle: it starts the copies of the block two ahead, waits for its own block and for the out copy of the
    block three before, works through its block and starts the copy of what it computed. -/
theorem tripMid (k : Fin k0_t1_loop.trips) (h3 : 3 ≤ k.val) (h30 : k.val + 2 < 32)
    (acc : Carry F) (f0 f2 g0 g2 fs fd fo W) (Q) :
    (iprop(owes (c : Thread nD τ) 0 W
      ∗ homeP c aK XK (Ring.bk 32 (k.val + 2)) ∗ homeP c aV XV (Ring.bk 32 (k.val + 2))
      ∗ flightP c aK bK cc0_scratch3 XK (Ring.sl 3 k.val) (Ring.bk 32 k.val) f0
      ∗ flightP c aV bV cc0_scratch4 XV (Ring.sl 3 k.val) (Ring.bk 32 k.val) g0
      ∗ cellP c cc0_scratch3 (Ring.sl 3 (k.val + 2)) ∗ slotP c bK (Ring.sl 3 (k.val + 2)) f2
      ∗ cellP c cc0_scratch4 (Ring.sl 3 (k.val + 2)) ∗ slotP c bV (Ring.sl 3 (k.val + 2)) g2
      ∗ outFlight c (Ring.sl 3 k.val) (Ring.bk 32 (k.val - 3)) fs fd
      ∗ homeP c aO fo (Ring.bk 32 k.val)
      ∗ (((∃ W, owes (c : Thread nD τ) 0 W)
          ∗ homeP c aK XK (Ring.bk 32 k.val) ∗ homeP c aV XV (Ring.bk 32 k.val)
          ∗ (∃ f, flightP c aK bK cc0_scratch3 XK (Ring.sl 3 (k.val + 2)) (Ring.bk 32 (k.val + 2)) f)
          ∗ (∃ f, flightP c aV bV cc0_scratch4 XV (Ring.sl 3 (k.val + 2)) (Ring.bk 32 (k.val + 2)) f)
          ∗ cellP c cc0_scratch3 (Ring.sl 3 k.val) ∗ (∃ f, slotP c bK (Ring.sl 3 k.val) f)
          ∗ cellP c cc0_scratch4 (Ring.sl 3 k.val) ∗ (∃ f, slotP c bV (Ring.sl 3 k.val) f)
          ∗ homeP c aO fd (Ring.bk 32 (k.val - 3))
          ∗ outP c (Ring.sl 3 k.val) (Ring.bk 32 k.val) (outOf c XK XV v2 v4 (Ring.bk 32 k.val) acc))
        -∗ Q (nextOf c XK XV v2 v4 (Ring.bk 32 k.val) acc))) : sProp 𝕄)
    ⊢ wp frame (wpE (defs₀ (F := F)) 𝒱₀ (c : Thread nD τ) none) Set.univ (tripG arg0 harg0 v2 v4 k acc) Q := by
  have hc1 : k0_cond1 k = 1#1 := (cond1_iff k).mpr h30
  have hc2 : k0_cond2 k = 1#1 := (cond2_iff k).mpr h3
  iintro ⟨HW, HhK, HhV, HFK, HFV, HcK, HsK, HcV, HsV, HFO, HhO, HQ⟩
  dsimp only [tripG]
  obtain ⟨cm, cu, cw⟩ := acc
  sl_unfold [k0_t1_body]
  sl_exec
  have eR : (tripMid.sl.r_31 c XK v2 v4 k cm, tripMid.sl.r_32 c XK v2 v4 k cm cu, tripMid.sl.r_33 c XK XV v2 v4 k cm cw)
      = nextOf c XK XV v2 v4 (Ring.bk 32 k.val) (cm, cu, cw) := by
    unfold nextOf; rw [← scores_read, ← values_read]; rfl
  have eO : tripMid.sl.dma25 c XK XV v2 v4 k fs cm cu cw = outOf c XK XV v2 v4 (Ring.bk 32 k.val) (cm, cu, cw) := by
    unfold outOf; rw [← scores_read, ← values_read]
    exact read_stores (slotOf bO (Ring.sl 3 k.val)).view fs fun i =>
      chunkOut v2 (chunkScores (k0_pay2 v4 (keysRead c XK k)) i) (rowsRead c XV k i)
        (carryIn v2 (chunkScores (k0_pay2 v4 (keysRead c XK k))) (rowsRead c XV k) (cm, cu, cw) i.val)
  rw [eR]
  sl_step
  iapply HQ
  isplitl [HW]; · iexists _; iexact HW
  isplitl [HFK_src]; · iexact HFK_src
  isplitl [HFV_src]; · iexact HFV_src
  isplitl [HcK]; · iexists f2; iexact HcK
  isplitl [HcV]; · iexists g2; iexact HcV
  isplitl [HFK]; · iexact HFK
  isplitl [HFK_dst]; · iexists _; iexact HFK_dst
  isplitl [HFV]; · iexact HFV
  isplitl [HFV_dst]; · iexists _; iexact HFV_dst
  isplitl [HFO_dst]; · iexact HFO_dst
  iexists _; iexists _
  isplitr
  rotate_left
  · iexact HFO
  · ipureintro
    exact (read_filled _ _ _).trans eO

/-- One of the first three trips: as a trip in the middle, but its out slot is free and no out copy is waited for. -/
theorem tripEarly (k : Fin k0_t1_loop.trips) (h3 : k.val < 3) (h30 : k.val + 2 < 32)
    (acc : Carry F) (f0 f2 g0 g2 fs fo W) (Q) :
    (iprop(owes (c : Thread nD τ) 0 W
      ∗ homeP c aK XK (Ring.bk 32 (k.val + 2)) ∗ homeP c aV XV (Ring.bk 32 (k.val + 2))
      ∗ flightP c aK bK cc0_scratch3 XK (Ring.sl 3 k.val) (Ring.bk 32 k.val) f0
      ∗ flightP c aV bV cc0_scratch4 XV (Ring.sl 3 k.val) (Ring.bk 32 k.val) g0
      ∗ cellP c cc0_scratch3 (Ring.sl 3 (k.val + 2)) ∗ slotP c bK (Ring.sl 3 (k.val + 2)) f2
      ∗ cellP c cc0_scratch4 (Ring.sl 3 (k.val + 2)) ∗ slotP c bV (Ring.sl 3 (k.val + 2)) g2
      ∗ cellP c cc0_scratch5 (Ring.sl 3 k.val) ∗ slotP c bO (Ring.sl 3 k.val) fs
      ∗ homeP c aO fo (Ring.bk 32 k.val)
      ∗ (((∃ W, owes (c : Thread nD τ) 0 W)
          ∗ homeP c aK XK (Ring.bk 32 k.val) ∗ homeP c aV XV (Ring.bk 32 k.val)
          ∗ (∃ f, flightP c aK bK cc0_scratch3 XK (Ring.sl 3 (k.val + 2)) (Ring.bk 32 (k.val + 2)) f)
          ∗ (∃ f, flightP c aV bV cc0_scratch4 XV (Ring.sl 3 (k.val + 2)) (Ring.bk 32 (k.val + 2)) f)
          ∗ cellP c cc0_scratch3 (Ring.sl 3 k.val) ∗ (∃ f, slotP c bK (Ring.sl 3 k.val) f)
          ∗ cellP c cc0_scratch4 (Ring.sl 3 k.val) ∗ (∃ f, slotP c bV (Ring.sl 3 k.val) f)
          ∗ outP c (Ring.sl 3 k.val) (Ring.bk 32 k.val) (outOf c XK XV v2 v4 (Ring.bk 32 k.val) acc))
        -∗ Q (nextOf c XK XV v2 v4 (Ring.bk 32 k.val) acc))) : sProp 𝕄)
    ⊢ wp frame (wpE (defs₀ (F := F)) 𝒱₀ (c : Thread nD τ) none) Set.univ (tripG arg0 harg0 v2 v4 k acc) Q := by
  have hc1 : k0_cond1 k = 1#1 := (cond1_iff k).mpr h30
  have hc2 : ¬k0_cond2 k = 1#1 := fun h => absurd ((cond2_iff k).mp h) (by omega)
  iintro ⟨HW, HhK, HhV, HFK, HFV, HcK, HsK, HcV, HsV, HcO, HsO, HhO, HQ⟩
  dsimp only [tripG]
  obtain ⟨cm, cu, cw⟩ := acc
  sl_unfold [k0_t1_body]
  sl_exec
  have eR : (tripEarly.sl.r_31 c XK v2 v4 k cm, tripEarly.sl.r_32 c XK v2 v4 k cm cu, tripEarly.sl.r_33 c XK XV v2 v4 k cm cw)
      = nextOf c XK XV v2 v4 (Ring.bk 32 k.val) (cm, cu, cw) := by
    unfold nextOf; rw [← scores_read, ← values_read]; rfl
  have eO : tripEarly.sl.dma25 c XK XV v2 v4 k fs cm cu cw = outOf c XK XV v2 v4 (Ring.bk 32 k.val) (cm, cu, cw) := by
    unfold outOf; rw [← scores_read, ← values_read]
    exact read_stores (slotOf bO (Ring.sl 3 k.val)).view fs fun i =>
      chunkOut v2 (chunkScores (k0_pay2 v4 (keysRead c XK k)) i) (rowsRead c XV k i)
        (carryIn v2 (chunkScores (k0_pay2 v4 (keysRead c XK k))) (rowsRead c XV k) (cm, cu, cw) i.val)
  rw [eR]
  sl_step
  iapply HQ
  isplitl [HW]; · iexists _; iexact HW
  isplitl [HFK_src]; · iexact HFK_src
  isplitl [HFV_src]; · iexact HFV_src
  isplitl [HcK]; · iexists f2; iexact HcK
  isplitl [HcV]; · iexists g2; iexact HcV
  isplitl [HFK]; · iexact HFK
  isplitl [HFK_dst]; · iexists _; iexact HFK_dst
  isplitl [HFV]; · iexact HFV
  isplitl [HFV_dst]; · iexists _; iexact HFV_dst
  iexists _; iexists _
  isplitr
  rotate_left
  · iexact HcO
  · ipureintro
    exact (read_filled _ _ _).trans eO

/-- One of the last two trips: as a trip in the middle, but no block is left to start copying. -/
theorem tripTail (k : Fin k0_t1_loop.trips) (h3 : 3 ≤ k.val) (h30 : 32 ≤ k.val + 2)
    (acc : Carry F) (f0 g0 fs fd fo W) (Q) :
    (iprop(owes (c : Thread nD τ) 0 W
      ∗ flightP c aK bK cc0_scratch3 XK (Ring.sl 3 k.val) (Ring.bk 32 k.val) f0
      ∗ flightP c aV bV cc0_scratch4 XV (Ring.sl 3 k.val) (Ring.bk 32 k.val) g0
      ∗ outFlight c (Ring.sl 3 k.val) (Ring.bk 32 (k.val - 3)) fs fd
      ∗ homeP c aO fo (Ring.bk 32 k.val)
      ∗ (((∃ W, owes (c : Thread nD τ) 0 W)
          ∗ homeP c aK XK (Ring.bk 32 k.val) ∗ homeP c aV XV (Ring.bk 32 k.val)
          ∗ cellP c cc0_scratch3 (Ring.sl 3 k.val) ∗ (∃ f, slotP c bK (Ring.sl 3 k.val) f)
          ∗ cellP c cc0_scratch4 (Ring.sl 3 k.val) ∗ (∃ f, slotP c bV (Ring.sl 3 k.val) f)
          ∗ homeP c aO fd (Ring.bk 32 (k.val - 3))
          ∗ outP c (Ring.sl 3 k.val) (Ring.bk 32 k.val) (outOf c XK XV v2 v4 (Ring.bk 32 k.val) acc))
        -∗ Q (nextOf c XK XV v2 v4 (Ring.bk 32 k.val) acc))) : sProp 𝕄)
    ⊢ wp frame (wpE (defs₀ (F := F)) 𝒱₀ (c : Thread nD τ) none) Set.univ (tripG arg0 harg0 v2 v4 k acc) Q := by
  have hc1 : ¬k0_cond1 k = 1#1 := fun h => absurd ((cond1_iff k).mp h) (by omega)
  have hc2 : k0_cond2 k = 1#1 := (cond2_iff k).mpr h3
  iintro ⟨HW, HFK, HFV, HFO, HhO, HQ⟩
  dsimp only [tripG]
  obtain ⟨cm, cu, cw⟩ := acc
  sl_unfold [k0_t1_body]
  sl_exec
  have eR : (tripTail.sl.r_31 c XK v2 v4 k cm, tripTail.sl.r_32 c XK v2 v4 k cm cu, tripTail.sl.r_33 c XK XV v2 v4 k cm cw)
      = nextOf c XK XV v2 v4 (Ring.bk 32 k.val) (cm, cu, cw) := by
    unfold nextOf; rw [← scores_read, ← values_read]; rfl
  have eO : tripTail.sl.dma25 c XK XV v2 v4 k fs cm cu cw = outOf c XK XV v2 v4 (Ring.bk 32 k.val) (cm, cu, cw) := by
    unfold outOf; rw [← scores_read, ← values_read]
    exact read_stores (slotOf bO (Ring.sl 3 k.val)).view fs fun i =>
      chunkOut v2 (chunkScores (k0_pay2 v4 (keysRead c XK k)) i) (rowsRead c XV k i)
        (carryIn v2 (chunkScores (k0_pay2 v4 (keysRead c XK k))) (rowsRead c XV k) (cm, cu, cw) i.val)
  rw [eR]
  sl_step
  iapply HQ
  isplitl [HW]; · iexists _; iexact HW
  isplitl [HFK_src]; · iexact HFK_src
  isplitl [HFV_src]; · iexact HFV_src
  isplitl [HFK]; · iexact HFK
  isplitl [HFK_dst]; · iexists _; iexact HFK_dst
  isplitl [HFV]; · iexact HFV
  isplitl [HFV_dst]; · iexists _; iexact HFV_dst
  isplitl [HFO_dst]; · iexact HFO_dst
  iexists _; iexists _
  isplitr
  rotate_left
  · iexact HFO
  · ipureintro
    exact (read_filled _ _ _).trans eO

end Trip

end Cert.Proof.Scan

end

end
-- ==== Proof.Loop.lean ====
/-
  The loop: what is held before trip `k`, and that a trip takes it from `k` to `k + 1`. Before trip `k` blocks `k` and
  `k + 1` of the keys and values are on their way in, the blocks of the result up to `k - 4` are written, the three before
  `k` are on their way out, and the carry is what the first `k` blocks make of it.
-/
module

public import proofs.«01_k».proof.Proof.Trip

@[expose] public section

noncomputable section

namespace Cert.Proof.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Loop
variable (c : Dev nD) (XK : Buf (Elt F) (aK.view.loc (c : Thread nD τ))) (XV : Buf (Elt F) (aV.view.loc (c : Thread nD τ)))
  (XO : Buf (Elt F) (aO.view.loc (c : Thread nD τ)))
  (arg0 : Memref sig .tc .vmem S1x256 .f32) (harg0 : arg0.IsWhole)
  (v2 : IVec S512x512 1) (v4 : FVec F S1x256 .f32) (a0 : Carry F)

/-- What the first `n` blocks carry on. -/
def carryAt : ℕ → Carry F
  | 0 => a0
  | n + 1 => nextOf c XK XV v2 v4 (Ring.bk 32 n) (carryAt n)
/-- Block `n` of the result. -/
def outAt (n : ℕ) : FVec F S4096x256 .f32 := outOf c XK XV v2 v4 (Ring.bk 32 n) (carryAt c XK XV v2 v4 a0 n)

/-- The three slots of the keys, and of the values, before trip `k`. -/
abbrev ringK (k : ℕ) : sProp 𝕄 :=
  Ring.At (NB := 32) 2 (cellP c cc0_scratch3) (slotP c bK) (homeP c aK XK) (flightP c aK bK cc0_scratch3 XK) k
abbrev ringV (k : ℕ) : sProp 𝕄 :=
  Ring.At (NB := 32) 2 (cellP c cc0_scratch4) (slotP c bV) (homeP c aV XV) (flightP c aV bV cc0_scratch4 XV) k
/-- An out slot nothing leaves from. -/
abbrev outFree (s : Fin 3) : sProp 𝕄 := iprop(cellP c cc0_scratch5 s ∗ ∃ f, slotP c bO s f)
/-- The out slot of trip `n`, before that trip: free at first, then with the block of three trips before on its way. -/
def outRole (n : ℕ) : sProp 𝕄 :=
  if 3 ≤ n then outP c (Ring.sl 3 n) (Ring.bk 32 (n - 3)) (outAt c XK XV v2 v4 a0 (n - 3)) else outFree c (Ring.sl 3 n)
theorem outRole_early (n : ℕ) (h : n < 3) : outRole c XK XV v2 v4 a0 n = outFree c (Ring.sl 3 n) := if_neg (by omega)
theorem outRole_late (n : ℕ) (h : 3 ≤ n) :
    outRole c XK XV v2 v4 a0 n = outP c (Ring.sl 3 n) (Ring.bk 32 (n - 3)) (outAt c XK XV v2 v4 a0 (n - 3)) := if_pos h

/-- What is held before trip `k`. -/
def invAt (k : ℕ) (acc : Carry F) : sProp 𝕄 :=
  iprop(⌜acc = carryAt c XK XV v2 v4 a0 k⌝ ∗ (∃ W, owes (c : Thread nD τ) 0 W) ∗ ringK c XK k ∗ ringV c XV k
    ∗ (outRole c XK XV v2 v4 a0 k ∗ outRole c XK XV v2 v4 a0 (k + 1) ∗ outRole c XK XV v2 v4 a0 (k + 2))
    ∗ bigSep (Ring.rangeSet 32 0 (k - 3)) (fun b => doneP c b (outAt c XK XV v2 v4 a0 b.val))
    ∗ bigSep (Ring.rangeSet 32 k 32) (homeP c aO XO))

/-- The block a trip waits out joins the blocks written. -/
theorem done_add (k : ℕ) (hk : k < 32) (h3 : 3 ≤ k) (fd : Buf (Elt F) (aO.view.loc (c : Thread nD τ)))
    (e : (blockOf aO (Ring.bk 32 (k - 3))).view.read (Elt F) fd = outAt c XK XV v2 v4 a0 (k - 3)) :
    (iprop(homeP c aO fd (Ring.bk 32 (k - 3))
      ∗ bigSep (Ring.rangeSet 32 0 (k - 3)) (fun b => doneP c b (outAt c XK XV v2 v4 a0 b.val))) : sProp 𝕄)
    ⊢ bigSep (Ring.rangeSet 32 0 (k + 1 - 3)) (fun b => doneP c b (outAt c XK XV v2 v4 a0 b.val)) := by
  rw [Ring.bigSep_rangeSet_last (lo := 0) (hi := k + 1 - 3) (by omega) (by omega)]
  have hb : (⟨k + 1 - 3 - 1, by omega⟩ : Fin 32) = Ring.bk 32 (k - 3) := Fin.ext (by rw [Ring.bk_val (by omega)]; show k + 1 - 3 - 1 = k - 3; omega)
  rw [hb, show k + 1 - 3 - 1 = k - 3 by omega]
  iintro ⟨Hh, Hd⟩
  isplitl [Hh]
  · iexists fd
    isplitr
    · ipureintro; rw [Ring.bk_val (by omega)]; exact e
    · iexact Hh
  · iexact Hd

/-- The out slot of trip `k`, filled, is the out slot of trip `k + 3` before that trip. -/
theorem outRole_next (k : ℕ) : outP c (Ring.sl 3 k) (Ring.bk 32 k) (outAt c XK XV v2 v4 a0 k) = outRole c XK XV v2 v4 a0 (k + 1 + 2) := by
  rw [outRole_late _ _ _ _ _ _ _ (by omega), show k + 1 + 2 - 3 = k by omega, show k + 1 + 2 = k + 3 from rfl, Ring.sl_add]

/-- A trip takes what is held before it to what is held before the next. -/
theorem step (k : Fin k0_t1_loop.trips) (acc : Carry F) :
    invAt c XK XV XO v2 v4 a0 k.val acc ⊢ wp frame (wpE (defs₀ (F := F)) 𝒱₀ (c : Thread nD τ) none) Set.univ
      (tripG arg0 harg0 v2 v4 k acc) (invAt c XK XV XO v2 v4 a0 (k.val + 1)) := by
  have hk : k.val < 32 := trip_lt k
  have hb : (⟨k.val, hk⟩ : Fin 32) = Ring.bk 32 k.val := Fin.ext (by rw [Ring.bk_val hk])
  unfold invAt
  rw [Ring.bigSep_rangeSet_head (lo := k.val) hk hk, hb]
  by_cases h30 : k.val + 2 < 32
  · rw [ringK, ringV, ringK, ringV, Ring.At3_here _ _ _ _ _ h30, Ring.At3_here _ _ _ _ _ h30, Ring.At3_next _ _ _ _ _ h30, Ring.At3_next _ _ _ _ _ h30,
      Ring.slotAt3_next0 _ _ _ _ (by omega), Ring.slotAt3_next0 _ _ _ _ (by omega), Ring.slotAt3_next1 _ _ _ _ (by omega), Ring.slotAt3_next1 _ _ _ _ (by omega)]
    by_cases h3 : 3 ≤ k.val
    · rw [outRole_late _ _ _ _ _ _ _ h3]
      iintro ⟨%hacc, ⟨%W, HW⟩, ⟨⟨HhK, HK⟩, ⟨%f0, HFK⟩, HFK1, HcK, ⟨%f2, HsK⟩⟩, ⟨⟨HhV, HV⟩, ⟨%g0, HFV⟩, HFV1, HcV, ⟨%g2, HsV⟩⟩,
        ⟨⟨%fs, %fd, %hfd, HFO⟩, HO1, HO2⟩, Hd, HhO, Hr⟩
      subst hacc
      iapply (tripMid c XK XV arg0 harg0 v2 v4 k h3 h30 _ f0 f2 g0 g2 fs fd XO W)
      isplitl [HW]; · iexact HW
      isplitl [HhK]; · iexact HhK
      isplitl [HhV]; · iexact HhV
      isplitl [HFK]; · iexact HFK
      isplitl [HFV]; · iexact HFV
      isplitl [HcK]; · iexact HcK
      isplitl [HsK]; · iexact HsK
      isplitl [HcV]; · iexact HcV
      isplitl [HsV]; · iexact HsV
      isplitl [HFO]; · iexact HFO
      isplitl [HhO]; · iexact HhO
      iintro ⟨HW, HhK, HhV, HFK2, HFV2, HcK, HsK, HcV, HsV, Hdk, HO3⟩
      isplitr; · ipureintro; rfl
      isplitl [HW]; · iexact HW
      isplitl [HhK HK HFK1 HFK2 HcK HsK]
      · isplitl [HhK HK]
        · isplitl [HhK] <;> iassumption
        isplitl [HFK1]; · iexact HFK1
        isplitl [HFK2]; · iexact HFK2
        isplitl [HcK] <;> iassumption
      isplitl [HhV HV HFV1 HFV2 HcV HsV]
      · isplitl [HhV HV]
        · isplitl [HhV] <;> iassumption
        isplitl [HFV1]; · iexact HFV1
        isplitl [HFV2]; · iexact HFV2
        isplitl [HcV] <;> iassumption
      isplitl [HO1 HO2 HO3]
      · isplitl [HO1]; · iexact HO1
        isplitl [HO2]; · iexact HO2
        iapply (Entails.of_eq (outRole_next c XK XV v2 v4 a0 k.val)); iexact HO3
      isplitl [Hd Hdk]
      · iapply (done_add c XK XV v2 v4 a0 k.val hk h3 fd hfd)
        isplitl [Hdk] <;> iassumption
      iexact Hr
    · rw [outRole_early _ _ _ _ _ _ _ (by omega), show k.val - 3 = 0 by omega, show k.val + 1 - 3 = 0 by omega]
      iintro ⟨%hacc, ⟨%W, HW⟩, ⟨⟨HhK, HK⟩, ⟨%f0, HFK⟩, HFK1, HcK, ⟨%f2, HsK⟩⟩, ⟨⟨HhV, HV⟩, ⟨%g0, HFV⟩, HFV1, HcV, ⟨%g2, HsV⟩⟩,
        ⟨⟨HcO, ⟨%fs, HsO⟩⟩, HO1, HO2⟩, Hd, HhO, Hr⟩
      subst hacc
      iapply (tripEarly c XK XV arg0 harg0 v2 v4 k (by omega) h30 _ f0 f2 g0 g2 fs XO W)
      isplitl [HW]; · iexact HW
      isplitl [HhK]; · iexact HhK
      isplitl [HhV]; · iexact HhV
      isplitl [HFK]; · iexact HFK
      isplitl [HFV]; · iexact HFV
      isplitl [HcK]; · iexact HcK
      isplitl [HsK]; · iexact HsK
      isplitl [HcV]; · iexact HcV
      isplitl [HsV]; · iexact HsV
      isplitl [HcO]; · iexact HcO
      isplitl [HsO]; · iexact HsO
      isplitl [HhO]; · iexact HhO
      iintro ⟨HW, HhK, HhV, HFK2, HFV2, HcK, HsK, HcV, HsV, HO3⟩
      isplitr; · ipureintro; rfl
      isplitl [HW]; · iexact HW
      isplitl [HhK HK HFK1 HFK2 HcK HsK]
      · isplitl [HhK HK]
        · isplitl [HhK] <;> iassumption
        isplitl [HFK1]; · iexact HFK1
        isplitl [HFK2]; · iexact HFK2
        isplitl [HcK] <;> iassumption
      isplitl [HhV HV HFV1 HFV2 HcV HsV]
      · isplitl [HhV HV]
        · isplitl [HhV] <;> iassumption
        isplitl [HFV1]; · iexact HFV1
        isplitl [HFV2]; · iexact HFV2
        isplitl [HcV] <;> iassumption
      isplitl [HO1 HO2 HO3]
      · isplitl [HO1]; · iexact HO1
        isplitl [HO2]; · iexact HO2
        iapply (Entails.of_eq (outRole_next c XK XV v2 v4 a0 k.val)); iexact HO3
      isplitl [Hd]; · iexact Hd
      iexact Hr
  · rw [ringK, ringV, ringK, ringV, Ring.At3_here_tail _ _ _ _ _ hk, Ring.At3_here_tail _ _ _ _ _ hk, Ring.At3_next_tail _ _ _ _ _ (by omega) hk,
      Ring.At3_next_tail _ _ _ _ _ (by omega) hk, Ring.slotAt3_tail_role, Ring.slotAt3_tail_role, outRole_late _ _ _ _ _ _ _ (show 3 ≤ k.val by omega)]
    iintro ⟨%hacc, ⟨%W, HW⟩, ⟨HK, ⟨%f0, HFK⟩, HFK1, HcK2⟩, ⟨HV, ⟨%g0, HFV⟩, HFV1, HcV2⟩,
      ⟨⟨%fs, %fd, %hfd, HFO⟩, HO1, HO2⟩, Hd, HhO, Hr⟩
    subst hacc
    iapply (tripTail c XK XV arg0 harg0 v2 v4 k (by omega) (by omega) _ f0 g0 fs fd XO W)
    isplitl [HW]; · iexact HW
    isplitl [HFK]; · iexact HFK
    isplitl [HFV]; · iexact HFV
    isplitl [HFO]; · iexact HFO
    isplitl [HhO]; · iexact HhO
    iintro ⟨HW, HhK, HhV, HcK, HsK, HcV, HsV, Hdk, HO3⟩
    isplitr; · ipureintro; rfl
    isplitl [HW]; · iexact HW
    isplitl [HhK HK HFK1 HcK2 HcK HsK]
    · isplitl [HhK HK]
      · isplitl [HhK] <;> iassumption
      isplitl [HFK1]; · iexact HFK1
      isplitl [HcK2]; · iexact HcK2
      isplitl [HcK] <;> iassumption
    isplitl [HhV HV HFV1 HcV2 HcV HsV]
    · isplitl [HhV HV]
      · isplitl [HhV] <;> iassumption
      isplitl [HFV1]; · iexact HFV1
      isplitl [HcV2]; · iexact HcV2
      isplitl [HcV] <;> iassumption
    isplitl [HO1 HO2 HO3]
    · isplitl [HO1]; · iexact HO1
      isplitl [HO2]; · iexact HO2
      iapply (Entails.of_eq (outRole_next c XK XV v2 v4 a0 k.val)); iexact HO3
    isplitl [Hd Hdk]
    · iapply (done_add c XK XV v2 v4 a0 k.val hk (by omega) fd hfd)
      isplitl [Hdk] <;> iassumption
    iexact Hr

end Loop

end Cert.Proof.Scan

end

end
-- ==== Proof.Body.lean ====
/-
  The kernel's body: the copies of blocks 0 and 1 of the keys and values are started, the loop runs its 32 trips, and the
  out copies of the last three blocks are waited for. Everything it was handed comes back, the result written block by block.
-/
module

public import proofs.«01_k».proof.Proof.Loop

@[expose] public section

noncomputable section

namespace Cert.Proof.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Body
variable (c : Dev nD) (XK : Buf (Elt F) (aK.view.loc (c : Thread nD τ))) (XV : Buf (Elt F) (aV.view.loc (c : Thread nD τ)))
  (XO : Buf (Elt F) (aO.view.loc (c : Thread nD τ)))
  (arg0 : Memref sig .tc .vmem S1x256 .f32) (harg0 : arg0.IsWhole)

abbrev bodyG : Prog (TpuEff nD τ sig (Elt F) Λ₀ .tc) PUnit :=
  cc0_aaren_scan_pipe arg0 harg0 aK (Memref.isWhole_whole _) aV (Memref.isWhole_whole _) aO (Memref.isWhole_whole _)
    bK (Memref.isWhole_whole _) bV (Memref.isWhole_whole _) bO (Memref.isWhole_whole _) cc0_scratch3 cc0_scratch4 cc0_scratch5

/-- The query as the body loads it. -/
abbrev queryOf (g0 : Buf (Elt F) (arg0.view.loc (c : Thread nD τ))) : FVec F S1x256 .f32 :=
  k0_pay83 (arg0.view.readAt (Elt F) (Rect.unit (s := S1x256) ![0, 0] S1x256.size inb_S1x256_S1x256_0_0).toLoadRect g0)
/-- The carry before the first block: no maximum, and both sums zero. -/
def noCarry : Carry F := (k0_pay84, k0_pay85, k0_pay1 (Scalar.ofBits .f32 0x00000000#32))

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)
theorem bk32_0 : Ring.bk 32 0 = 0 := Fin.ext (by rfl)
theorem bk32_1' : Ring.bk 32 (0 + 1) = 1 := Fin.ext (by rfl)
theorem bk32_1 : Ring.bk 32 1 = 1 := Fin.ext (by rfl)

abbrev queryP (g0 : Buf (Elt F) (arg0.view.loc (c : Thread nD τ))) : sProp 𝕄 :=
  arg0.view.loc (c : Thread nD τ) ↦[arg0.view.set]{fullShare} g0
abbrev ringK₀ : sProp 𝕄 := Ring.At₀ (NB := 32) (cellP c cc0_scratch3) (slotP c bK) (homeP c aK XK)
abbrev ringV₀ : sProp 𝕄 := Ring.At₀ (NB := 32) (cellP c cc0_scratch4) (slotP c bV) (homeP c aV XV)

theorem sl3_32 : Ring.sl 3 32 = 2 := Fin.ext (by rfl)
theorem sl3_33 : Ring.sl 3 (32 + 1) = 0 := Fin.ext (by rfl)
theorem sl3_34 : Ring.sl 3 (32 + 2) = 1 := Fin.ext (by rfl)
theorem bk32_29 : Ring.bk 32 (32 - 3) = 29 := Fin.ext (by rfl)
theorem bk32_30 : Ring.bk 32 (32 + 1 - 3) = 30 := Fin.ext (by rfl)
theorem bk32_31 : Ring.bk 32 (32 + 2 - 3) = 31 := Fin.ext (by rfl)

/-- The first 29 blocks and the last three are all 32. -/
theorem blocks_all (P : Fin 32 → sProp 𝕄) :
    iprop(bigSep (Ring.rangeSet 32 0 29) P ∗ P 29 ∗ P 30 ∗ P 31) ⊢ bigSep Finset.univ P := by
  rw [← Ring.rangeSet_univ, Ring.bigSep_rangeSet_split (a := 0) (b := 29) (d := 32) (by omega) (by omega),
    Ring.bigSep_rangeSet_head (lo := 29) (by omega) (by omega), Ring.bigSep_rangeSet_head (lo := 29 + 1) (by omega) (by omega),
    Ring.bigSep_rangeSet_head (lo := 29 + 1 + 1) (by omega) (by omega), Ring.bigSep_rangeSet_empty (lo := 29 + 1 + 1 + 1) (by omega)]
  iintro ⟨H, H29, H30, H31⟩
  isplitl [H]; · iexact H
  isplitl [H29]; · exact .rfl
  isplitl [H30]; · exact .rfl
  isplitl [H31]; · exact .rfl
  iempintro

set_option maxHeartbeats 1000000 in
theorem bodyRun (gq : Buf (Elt F) (arg0.view.loc (c : Thread nD τ))) (W) (Q : PUnit → sProp 𝕄) :
    (iprop(queryP c arg0 gq ∗ owes (c : Thread nD τ) 0 W ∗ ringK₀ c XK ∗ ringV₀ c XV
      ∗ (outFree c 0 ∗ outFree c 1 ∗ outFree c 2) ∗ bigSep Finset.univ (homeP c aO XO)
      ∗ ((queryP c arg0 gq ∗ (∃ W, owes (c : Thread nD τ) 0 W) ∗ ringK c XK 32 ∗ ringV c XV 32
          ∗ (outFree c 0 ∗ outFree c 1 ∗ outFree c 2)
          ∗ bigSep Finset.univ (fun b => doneP c b (outAt c XK XV k0_pay82 (queryOf c arg0 gq) noCarry b.val)))
        -∗ Q ⟨⟩)) : sProp 𝕄)
    ⊢ wp frame (wpE (defs₀ (F := F)) 𝒱₀ (c : Thread nD τ) none) Set.univ (bodyG arg0 harg0) Q := by
  rw [ringK₀, ringV₀, Ring.At₀_eq3 _ _ _ (by omega), Ring.At₀_eq3 _ _ _ (by omega), bk32_0, bk32_1]
  iintro ⟨Hq, HW, ⟨⟨HK0, HK1, HK2, HK⟩, ⟨HcK0, ⟨%f0, HsK0⟩⟩, ⟨HcK1, ⟨%f1, HsK1⟩⟩, HfK2⟩,
    ⟨⟨HV0, HV1, HV2, HV⟩, ⟨HcV0, ⟨%g0, HsV0⟩⟩, ⟨HcV1, ⟨%g1, HsV1⟩⟩, HfV2⟩, ⟨HO0, HO1, HO2⟩, HO, HQ⟩
  sl_exec
  sl_for (invAt c XK XV XO k0_pay82 (queryOf c arg0 gq) noCarry) $$ [HW HcK0 HcK1 HK2 HK HfK2 HcV0 HcV1 HV2 HV HfV2 HO0 HO1 HO2 HO]
  · intro k acc
    exact step c XK XV XO arg0 harg0 _ _ _ k acc
  · unfold invAt
    rw [ringK, ringV, Ring.At3_here _ _ _ _ 0 (by omega), Ring.At3_here _ _ _ _ 0 (by omega), outRole_early _ _ _ _ _ _ _ (by omega),
      outRole_early _ _ _ _ _ _ _ (by omega), outRole_early _ _ _ _ _ _ _ (by omega), Ring.bigSep_rangeSet_empty (hi := 0 - 3) (by omega), Ring.rangeSet_univ,
      sl3_0, sl3_1, sl3_2, bk32_0, bk32_1']
    isplitr; · ipureintro; rfl
    isplitl [HW]; · iexists W; iexact HW
    isplitl [HcK0 HcK1 HK2 HK HfK2]
    · isplitl [HK2 HK]
      · isplitl [HK2] <;> iassumption
      isplitl [HcK0]; · iexists f0; iexact HcK0
      isplitl [HcK1]; · iexists f1; iexact HcK1
      iexact HfK2
    isplitl [HcV0 HcV1 HV2 HV HfV2]
    · isplitl [HV2 HV]
      · isplitl [HV2] <;> iassumption
      isplitl [HcV0]; · iexists g0; iexact HcV0
      isplitl [HcV1]; · iexists g1; iexact HcV1
      iexact HfV2
    isplitl [HO0 HO1 HO2]
    · isplitl [HO0]; · iexact HO0
      isplitl [HO1]; · iexact HO1
      iexact HO2
    isplitr; · iempintro
    iexact HO
  iintro %acc HI
  rw [show Scf.trips k0_t1_loop.lb k0_t1_loop.ub k0_t1_loop.st = 32 from trips_eq]
  unfold invAt
  rw [outRole_late _ _ _ _ _ _ _ (by omega), outRole_late _ _ _ _ _ _ _ (by omega), outRole_late _ _ _ _ _ _ _ (by omega),
    sl3_32, sl3_33, sl3_34, bk32_29, bk32_30, bk32_31]
  icases HI with ⟨%hacc, ⟨%W', HW⟩, HK, HV, ⟨⟨%fs0, %fd0, %e0, HF0⟩, ⟨%fs1, %fd1, %e1, HF1⟩, ⟨%fs2, %fd2, %e2, HF2⟩⟩, Hd, -⟩
  sl_exec
  sl_step
  iapply HQ
  isplitl [Hq]; · iexact Hq
  isplitl [HW]; · iexists _; iexact HW
  isplitl [HK]; · iexact HK
  isplitl [HV]; · iexact HV
  isplitl [HF0 HF1 HF2 HF0_src HF1_src HF2_src]
  · isplitl [HF1 HF1_src]
    · isplitl [HF1]; · iexact HF1
      iexists fs1; iexact HF1_src
    isplitl [HF2 HF2_src]
    · isplitl [HF2]; · iexact HF2
      iexists fs2; iexact HF2_src
    isplitl [HF0]; · iexact HF0
    iexists fs0; iexact HF0_src
  iapply blocks_all
  isplitl [Hd]; · iexact Hd
  isplitl [HF0_dst]
  · iexists fd0
    isplitr; · ipureintro; exact e0
    iexact HF0_dst
  isplitl [HF1_dst]
  · iexists fd1
    isplitr; · ipureintro; exact e1
    iexact HF1_dst
  iexists fd2
  isplitr; · ipureintro; exact e2
  iexact HF2_dst

end Body

end Cert.Proof.Scan

end

end
-- ==== Proof.Blocks.lean ====
/-
  The arrays cut into their 32 blocks and the buffers cut into their three slots: an array held whole is its blocks held
  one by one, and blocks of the result written one by one are the result written whole.
-/
module

public import proofs.«01_k».proof.Proof.Body

@[expose] public section

noncomputable section

namespace Cert.Proof.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The elements of block `b`, and of slot `s`. -/
abbrev blockSet (b : Fin 32) : Finset S131072x256.Idx := (Rect.unit (s := S131072x256) (rowOff b) S4096x256.size (rowOff_inb b)).set
abbrev slotSet (s : Fin 3) : Finset S3x4096x256.Idx := (Rect.unit (s := S3x4096x256) (slotOff s) S1x4096x256.size (slotOff_inb s)).set

theorem mem_blockSet (b : Fin 32) (y : S131072x256.Idx) : y ∈ blockSet b ↔ (y 0).val / 4096 = b.val := by
  rw [Rect.mem_set_unit]
  have h1 : (y 1).val < 256 := (y 1).isLt
  constructor
  · intro H
    have a0 : 4096 * b.val ≤ (y 0).val ∧ (y 0).val < 4096 * b.val + 4096 := H 0
    omega
  · intro H i
    fin_cases i
    · show 4096 * b.val ≤ (y 0).val ∧ (y 0).val < 4096 * b.val + 4096; omega
    · show 0 ≤ (y 1).val ∧ (y 1).val < 0 + 256; omega
theorem mem_slotSet (s : Fin 3) (y : S3x4096x256.Idx) : y ∈ slotSet s ↔ (y 0).val = s.val := by
  rw [Rect.mem_set_unit]
  have h1 : (y 1).val < 4096 := (y 1).isLt
  have h2 : (y 2).val < 256 := (y 2).isLt
  constructor
  · intro H
    have a0 : s.val ≤ (y 0).val ∧ (y 0).val < s.val + 1 := H 0
    omega
  · intro H i
    fin_cases i
    · show s.val ≤ (y 0).val ∧ (y 0).val < s.val + 1; omega
    · show 0 ≤ (y 1).val ∧ (y 1).val < 0 + 4096; omega
    · show 0 ≤ (y 2).val ∧ (y 2).val < 0 + 256; omega

theorem blocks_apart : ∀ b b' : Fin 32, b ≠ b' → Disjoint (blockSet b) (blockSet b') := fun b b' hne =>
  Finset.disjoint_left.mpr fun y hy hy' => hne (Fin.ext (((mem_blockSet b y).mp hy).symm.trans ((mem_blockSet b' y).mp hy')))
theorem slots_apart : ∀ s s' : Fin 3, s ≠ s' → Disjoint (slotSet s) (slotSet s') := fun s s' hne =>
  Finset.disjoint_left.mpr fun y hy hy' => hne (Fin.ext (((mem_slotSet s y).mp hy).symm.trans ((mem_slotSet s' y).mp hy')))
theorem blocks_cover : (Finset.univ : Finset (Fin 32)).biUnion blockSet = Finset.univ :=
  Finset.eq_univ_of_forall fun y => Finset.mem_biUnion.mpr ⟨⟨(y 0).val / 4096, by have : (y 0).val < 131072 := (y 0).isLt; omega⟩,
    Finset.mem_univ _, (mem_blockSet _ y).mpr rfl⟩
theorem slots_cover : (Finset.univ : Finset (Fin 3)).biUnion slotSet = Finset.univ :=
  Finset.eq_univ_of_forall fun y => Finset.mem_biUnion.mpr ⟨⟨(y 0).val, (y 0).isLt⟩, Finset.mem_univ _, (mem_slotSet _ y).mpr rfl⟩

section Cut
variable (c : Dev nD)

/-- An array held whole is its 32 blocks. -/
theorem keys_eq (X : Buf (Elt F) (aK.view.loc (c : Thread nD τ))) :
    (((c : Thread nD τ).loc main_arg0) ↦{fullShare} X : sProp 𝕄) = bigSep Finset.univ (homeP c aK X) := by
  rw [Ring.pointsTo_blocks (ℓ := (c : Thread nD τ).loc main_arg0) blockSet blocks_apart blocks_cover]
  exact bigSep_congr fun b _ => congrArg (fun S => (_ ↦[S]{fullShare} X : sProp 𝕄)) (View.set_slice_whole main_arg0 _).symm
theorem values_eq (X : Buf (Elt F) (aV.view.loc (c : Thread nD τ))) :
    (((c : Thread nD τ).loc main_arg1) ↦{fullShare} X : sProp 𝕄) = bigSep Finset.univ (homeP c aV X) := by
  rw [Ring.pointsTo_blocks (ℓ := (c : Thread nD τ).loc main_arg1) blockSet blocks_apart blocks_cover]
  exact bigSep_congr fun b _ => congrArg (fun S => (_ ↦[S]{fullShare} X : sProp 𝕄)) (View.set_slice_whole main_arg1 _).symm
theorem result_eq (X : Buf (Elt F) (aO.view.loc (c : Thread nD τ))) :
    (((c : Thread nD τ).loc main_v1) ↦{fullShare} X : sProp 𝕄) = bigSep Finset.univ (homeP c aO X) := by
  rw [Ring.pointsTo_blocks (ℓ := (c : Thread nD τ).loc main_v1) blockSet blocks_apart blocks_cover]
  exact bigSep_congr fun b _ => congrArg (fun S => (_ ↦[S]{fullShare} X : sProp 𝕄)) (View.set_slice_whole main_v1 _).symm

theorem slotK_eq (s : Fin 3) (f) : slotP c bK s f = (((c : Thread nD τ).loc cc0_scratch0) ↦[slotSet s]{fullShare} f : sProp 𝕄) :=
  congrArg (fun S => (_ ↦[S]{fullShare} f : sProp 𝕄)) ((View.set_reshape _ _).trans (View.set_slice_whole cc0_scratch0 _))
/-- A buffer of three slots held whole is its slots, each at anything; and back. -/
theorem bufK_split : iprop(∃ f : Buf (Elt F) ((c : Thread nD τ).loc cc0_scratch0), ((c : Thread nD τ).loc cc0_scratch0) ↦{fullShare} f)
    ⊢ (iprop((∃ f, slotP c bK 0 f) ∗ (∃ f, slotP c bK 1 f) ∗ ∃ f, slotP c bK 2 f) : sProp 𝕄) :=
  Ring.slots3_split (ℓ := (c : Thread nD τ).loc cc0_scratch0) slotSet slots_apart slots_cover _ _ _ (slotK_eq c 0) (slotK_eq c 1) (slotK_eq c 2)
theorem bufK_join : (iprop((∃ f, slotP c bK 0 f) ∗ (∃ f, slotP c bK 1 f) ∗ ∃ f, slotP c bK 2 f) : sProp 𝕄)
    ⊢ iprop(∃ f : Buf (Elt F) ((c : Thread nD τ).loc cc0_scratch0), ((c : Thread nD τ).loc cc0_scratch0) ↦{fullShare} f) :=
  Ring.slots3_join (ℓ := (c : Thread nD τ).loc cc0_scratch0) slotSet slots_apart slots_cover _ _ _ (slotK_eq c 0) (slotK_eq c 1) (slotK_eq c 2)
theorem slotV_eq (s : Fin 3) (f) : slotP c bV s f = (((c : Thread nD τ).loc cc0_scratch1) ↦[slotSet s]{fullShare} f : sProp 𝕄) :=
  congrArg (fun S => (_ ↦[S]{fullShare} f : sProp 𝕄)) ((View.set_reshape _ _).trans (View.set_slice_whole cc0_scratch1 _))
theorem bufV_split : iprop(∃ f : Buf (Elt F) ((c : Thread nD τ).loc cc0_scratch1), ((c : Thread nD τ).loc cc0_scratch1) ↦{fullShare} f)
    ⊢ (iprop((∃ f, slotP c bV 0 f) ∗ (∃ f, slotP c bV 1 f) ∗ ∃ f, slotP c bV 2 f) : sProp 𝕄) :=
  Ring.slots3_split (ℓ := (c : Thread nD τ).loc cc0_scratch1) slotSet slots_apart slots_cover _ _ _ (slotV_eq c 0) (slotV_eq c 1) (slotV_eq c 2)
theorem bufV_join : (iprop((∃ f, slotP c bV 0 f) ∗ (∃ f, slotP c bV 1 f) ∗ ∃ f, slotP c bV 2 f) : sProp 𝕄)
    ⊢ iprop(∃ f : Buf (Elt F) ((c : Thread nD τ).loc cc0_scratch1), ((c : Thread nD τ).loc cc0_scratch1) ↦{fullShare} f) :=
  Ring.slots3_join (ℓ := (c : Thread nD τ).loc cc0_scratch1) slotSet slots_apart slots_cover _ _ _ (slotV_eq c 0) (slotV_eq c 1) (slotV_eq c 2)
theorem slotO_eq (s : Fin 3) (f) : slotP c bO s f = (((c : Thread nD τ).loc cc0_scratch2) ↦[slotSet s]{fullShare} f : sProp 𝕄) :=
  congrArg (fun S => (_ ↦[S]{fullShare} f : sProp 𝕄)) ((View.set_reshape _ _).trans (View.set_slice_whole cc0_scratch2 _))
theorem bufO_split : iprop(∃ f : Buf (Elt F) ((c : Thread nD τ).loc cc0_scratch2), ((c : Thread nD τ).loc cc0_scratch2) ↦{fullShare} f)
    ⊢ (iprop((∃ f, slotP c bO 0 f) ∗ (∃ f, slotP c bO 1 f) ∗ ∃ f, slotP c bO 2 f) : sProp 𝕄) :=
  Ring.slots3_split (ℓ := (c : Thread nD τ).loc cc0_scratch2) slotSet slots_apart slots_cover _ _ _ (slotO_eq c 0) (slotO_eq c 1) (slotO_eq c 2)
theorem bufO_join : (iprop((∃ f, slotP c bO 0 f) ∗ (∃ f, slotP c bO 1 f) ∗ ∃ f, slotP c bO 2 f) : sProp 𝕄)
    ⊢ iprop(∃ f : Buf (Elt F) ((c : Thread nD τ).loc cc0_scratch2), ((c : Thread nD τ).loc cc0_scratch2) ↦{fullShare} f) :=
  Ring.slots3_join (ℓ := (c : Thread nD τ).loc cc0_scratch2) slotSet slots_apart slots_cover _ _ _ (slotO_eq c 0) (slotO_eq c 1) (slotO_eq c 2)

/-- The result whole: row `r` is row `r % 4096` of block `r / 4096`. -/
def joined (v : ℕ → FVec F S4096x256 .f32) : Buf (Elt F) (aO.view.loc (c : Thread nD τ)) := fun (y : S131072x256.Idx) =>
  v ((y 0).val / 4096) (Shape.pair (d := S4096x256.size) ⟨(y 0).val % 4096, Nat.mod_lt _ (by decide)⟩ (y 1))

theorem joined_at (v : ℕ → FVec F S4096x256 .f32) (b : ℕ) (x : S4096x256.Idx) (y : S131072x256.Idx)
    (h0 : (y 0).val = 4096 * b + (x 0).val) (h1 : (y 1).val = (x 1).val) : joined c v y = v b x := by
  have hx : (x 0).val < 4096 := (x 0).isLt
  unfold joined
  rw [show (y 0).val / 4096 = b by omega]
  refine congrArg (v b) ?_
  funext a
  apply Fin.ext
  fin_cases a
  · show (y 0).val % 4096 = (x 0).val; omega
  · exact h1

/-- A block that reads as it should holds what the whole result holds there. -/
theorem done_joined (v : ℕ → FVec F S4096x256 .f32) (b : Fin 32) : (doneP c b (v b.val) : sProp 𝕄) ⊢ homeP c aO (joined c v) b := by
  iintro ⟨%fd, %e, H⟩
  have hc : (homeP c aO fd b : sProp 𝕄) = homeP c aO (joined c v) b := by
    refine pointsTo_congr fun i hi => ?_
    obtain ⟨x, -, rfl⟩ := Finset.mem_map.mp hi
    refine (congrFun e x).trans (joined_at c v b.val x _ ?_ ?_).symm
    · show 4096 * b.val + 1 * (x 0).val = 4096 * b.val + (x 0).val; omega
    · show 0 + 1 * (x 1).val = (x 1).val; omega
  iapply (Entails.of_eq hc)
  iexact H

/-- Every block written is the result written. -/
theorem done_all (v : ℕ → FVec F S4096x256 .f32) : bigSep Finset.univ (fun b => doneP c b (v b.val))
    ⊢ (((c : Thread nD τ).loc main_v1) ↦{fullShare} joined c v : sProp 𝕄) := by
  rw [result_eq]
  exact bigSep_mono fun b _ => done_joined c v b

end Cut

end Cert.Proof.Scan

end

end
-- ==== Proof.Launch.lean ====
/-
  The launch: from any memory the whole program runs to the end, the arguments are unchanged, the result holds the 32
  blocks the trips computed, and every semaphore counter is back at zero.
-/
module

public import proofs.«01_k».proof.Proof.Blocks
public import proofs.«01_k».proof.Proof.Gen.KernelIdeal.Frame
public import Idealize.ShloMosaic.Lib.Pipeline.FrameValue

@[expose] public section

noncomputable section

namespace Cert.Proof.Scan

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The kernel's own semaphores: three arrays of three -/

abbrev semArr : Fin 3 → DmaSems sig S3 := ![cc0_scratch3, cc0_scratch4, cc0_scratch5]
abbrev osem : Fin 3 × Fin 3 → SemLoc sig := fun p => .dma (semOf (semArr p.1) p.2).sem
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop((cellP c cc0_scratch3 0 ∗ cellP c cc0_scratch3 1 ∗ cellP c cc0_scratch3 2)
        ∗ (cellP c cc0_scratch4 0 ∗ cellP c cc0_scratch4 1 ∗ cellP c cc0_scratch4 2)
        ∗ (cellP c cc0_scratch5 0 ∗ cellP c cc0_scratch5 1 ∗ cellP c cc0_scratch5 2)) := by
  have assoc : ∀ P Q R' : sProp 𝕄, iprop((P ∗ Q) ∗ R') = iprop(P ∗ Q ∗ R') :=
    fun _ _ _ => Entails.antisymm Idealize.SL.BI.sep_assoc Idealize.SL.BI.sep_assoc'
  unfold Pipeline.ownSems0
  rw [bigSep_univ_eq_bigSepL [((0 : Fin 3), (0 : Fin 3)), (0, 1), (0, 2), (1, 0), (1, 1), (1, 2), (2, 0), (2, 1), (2, 2)] (by decide) (by decide)]
  simp only [bigSepL_cons_cons, bigSepL_singleton, assoc]
  rfl

/-! ## What the kernel leaves -/

abbrev keysAt (c : Dev nD) : Buf (Elt F) (aK.view.loc (c : Thread nD τ)) := V m c main_arg0
abbrev valuesAt (c : Dev nD) : Buf (Elt F) (aV.view.loc (c : Thread nD τ)) := V m c main_arg1
/-- The query, as the kernel's one staged operand holds it. -/
def queryAt (c : Dev nD) : FVec F S1x256 .f32 := k0_pay83 (V m c main_v0)
/-- Block `n` of the result. -/
def blockAt (c : Dev nD) (n : ℕ) : FVec F S4096x256 .f32 :=
  outAt c (keysAt m c) (valuesAt m c) k0_pay82 (queryAt m c) noCarry n
/-- The result. -/
def resultAt (c : Dev nD) : Buf (Elt F) (aO.view.loc (c : Thread nD τ)) := joined c (blockAt m c)

/-- The buffers' contents when the kernel is done: the result's new, every other as it was. -/
def finalV (c : Dev nD) : (b : Ref sig .tc) → Buf (Elt F) ((c : Thread nD τ).loc b) := Function.update (V m c) main_v1 (resultAt m c)

abbrev readSet : Finset (Ref sig .tc) := {main_arg0, main_arg1}
abbrev writeSet : Finset (Ref sig .tc) := {main_v1}
theorem readSet_sub : readSet ⊆ Pipeline.restRefs sig spec0 := by decide
theorem writeSet_sub : writeSet ⊆ Pipeline.restRefs sig spec0 \ readSet := by decide

/-! ## The pipeline's proof data -/

def dats (_ : Fin 1) (c : Dev nD) : Dat τ (Elt F) Unit ℕ (UU nD τ) ℕ cfg0 c where
  A w := V m c (Pipeline.arrRef spec0 w)
  after w t := match w with
    | ⟨0, _⟩ => iblk m c 0 t
  Φ t := Pipeline.ΦDRG osem spec0 readSet writeSet (V m) (if t.val = 0 then V m else finalV m) c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

/-- The staged operand, loaded whole, is the query. -/
theorem query_read (c : Dev nD) (t : Fin cfg0.N) : queryOf c (st0_0 t) ((st0_0 t).view.rep (iblk m c 0 t)) = queryAt m c := by
  unfold queryOf queryAt
  refine congrArg k0_pay83 ?_
  funext y
  rw [View.readAt_apply, View.read_rep]
  unfold iblk
  rw [View.read_apply]
  refine congrArg (V m c main_v0) ?_
  funext a
  apply Fin.ext
  fin_cases a
  · show 0 + 1 * (0 + 1 * (y 0).val) = (y 0).val; omega
  · show 0 + 1 * (0 + 1 * (y 1).val) = (y 1).val; omega

/-- What is held around the kernel, piece by piece. -/
theorem Φ_pieces (c : Dev nD) (G : (c : Dev nD) → (b : Ref sig .tc) → Buf (Elt F) ((c : Thread nD τ).loc b)) :
    (Pipeline.ΦDRG osem spec0 readSet writeSet (V m) G c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ (∃ r, prngReg c r)
      ∗ ((cellP c cc0_scratch3 0 ∗ cellP c cc0_scratch3 1 ∗ cellP c cc0_scratch3 2)
        ∗ (cellP c cc0_scratch4 0 ∗ cellP c cc0_scratch4 1 ∗ cellP c cc0_scratch4 2)
        ∗ (cellP c cc0_scratch5 0 ∗ cellP c cc0_scratch5 1 ∗ cellP c cc0_scratch5 2))
      ∗ (bigSep Finset.univ (homeP c aK (keysAt m c)) ∗ bigSep Finset.univ (homeP c aV (valuesAt m c)))
      ∗ (((c : Thread nD τ).loc main_v1) ↦{fullShare} G c main_v1)) := by
  rw [Pipeline.ΦDRG_eq, scopedRest0_eq, ownSems0_eq, ← keys_eq, ← values_eq]
  unfold Pipeline.routed
  rw [bigSep_eq_bigSepL_of_eq [main_arg0, main_arg1] (by decide) (by decide), bigSep_eq_bigSepL_of_eq [main_v1] (by decide) (by decide)]
  simp only [bigSepL_cons_cons, bigSepL_singleton]
  rfl

/-! ## The body obligation -/

abbrev hst0 (t : Fin cfg0.N) : (st0_0 t).IsWhole := hstage0_0 0

theorem defs_tc : (defs₀ (F := F)) .tc cfg0.body = fun a => bodyG (win0_0.stage (a.2 0)) (hstage0_0 0) := rfl
theorem prog_at (t : Fin cfg0.N) : (defs₀ (F := F)) .tc cfg0.body (cfg0.bodyArgs t (cfg0.slots t)) = bodyG (st0_0 t) (hst0 t) :=
  (congrFun defs_tc _).trans rfl

/-- Every slot of the keys' ring free again, and every block home. -/
theorem ringK_done (c : Dev nD) (X) : (ringK c X 32 : sProp 𝕄) ⊢ iprop(bigSep Finset.univ (homeP c aK X)
    ∗ (cellP c cc0_scratch3 0 ∗ ∃ f, slotP c bK 0 f) ∗ (cellP c cc0_scratch3 1 ∗ ∃ f, slotP c bK 1 f) ∗ (cellP c cc0_scratch3 2 ∗ ∃ f, slotP c bK 2 f)) :=
  Ring.free3_of_At_last _ _ _ _
theorem ringV_done (c : Dev nD) (X) : (ringV c X 32 : sProp 𝕄) ⊢ iprop(bigSep Finset.univ (homeP c aV X)
    ∗ (cellP c cc0_scratch4 0 ∗ ∃ f, slotP c bV 0 f) ∗ (cellP c cc0_scratch4 1 ∗ ∃ f, slotP c bV 1 f) ∗ (cellP c cc0_scratch4 2 ∗ ∃ f, slotP c bV 2 f)) :=
  Ring.free3_of_At_last _ _ _ _

set_option backward.isDefEq.respectTransparency.types false in
set_option maxHeartbeats 800000 in
/-- The one point of the grid: the kernel's body, from what is held at entry to what is held at exit. -/
theorem body_obligation (c : Dev nD) : BodyObligation (dats (F := F) m 0 c) (defs₀ (F := F)) 𝒱₀ () Set.univ := fun t => by
  rw [bigSep_W0, bigSep_W0]
  dsimp only
  simp only [before_w0, after_w0]
  rw [show (dats m 0 c).Φ t.castSucc = Pipeline.ΦDRG osem spec0 readSet writeSet (V m) (V m) c from by
      show Pipeline.ΦDRG osem spec0 readSet writeSet (V m) (if t.val = 0 then V m else finalV m) c = _
      rw [if_pos (by rw [fin_N0 t]; rfl)],
    show (dats m 0 c).Φ t.succ = Pipeline.ΦDRG osem spec0 readSet writeSet (V m) (finalV m) c from by
      show Pipeline.ΦDRG osem spec0 readSet writeSet (V m) (if t.val + 1 = 0 then V m else finalV m) c = _
      rw [if_neg (by omega)],
    Φ_pieces, Φ_pieces]
  unfold Dat.owesAt Pipeline.owesWithin
  rw [show (dats m 0 c).owed t.castSucc = 0 from rfl, show (dats m 0 c).owed t.succ = 0 from rfl]
  unfold owns
  iintro ⟨⟨⟨HbK, HbV, HbO⟩, Hp, ⟨⟨HK0, HK1, HK2⟩, ⟨HV0, HV1, HV2⟩, ⟨HO0, HO1, HO2⟩⟩, ⟨HhK, HhV⟩, HhO⟩, ⟨%W, -, HW⟩, ⟨%d0, %g0, %hg0, Hq⟩⟩
  ihave Hq' := (pointsTo_rep_entails (c : Thread nD τ) (st0_0 t) g0 fullShare) $$ Hq
  rw [hg0]
  ihave HsK := (bufK_split c) $$ HbK
  ihave HsV := (bufV_split c) $$ HbV
  ihave HsO := (bufO_split c) $$ HbO
  icases HsK with ⟨HsK0, HsK1, HsK2⟩
  icases HsV with ⟨HsV0, HsV1, HsV2⟩
  icases HsO with ⟨HsO0, HsO1, HsO2⟩
  ihave HhO' := (Entails.of_eq (result_eq c _)) $$ HhO
  sl_rw [prog_at t]
  iapply (bodyRun c (keysAt m c) (valuesAt m c) (V m c main_v1) (st0_0 t) (hst0 t) ((st0_0 t).view.rep (iblk m c 0 t)) W)
  isplitl [Hq']; · iexact Hq'
  isplitl [HW]; · iexact HW
  isplitl [HhK HK0 HK1 HK2 HsK0 HsK1 HsK2]
  · unfold ringK₀ Ring.At₀
    irw [Ring.bigSep_fin3]
    isplitl [HhK]; · iexact HhK
    isplitl [HK0 HsK0]
    · isplitl [HK0]; · iexact HK0
      iexact HsK0
    isplitl [HK1 HsK1]
    · isplitl [HK1]; · iexact HK1
      iexact HsK1
    isplitl [HK2]; · iexact HK2
    iexact HsK2
  isplitl [HhV HV0 HV1 HV2 HsV0 HsV1 HsV2]
  · unfold ringV₀ Ring.At₀
    irw [Ring.bigSep_fin3]
    isplitl [HhV]; · iexact HhV
    isplitl [HV0 HsV0]
    · isplitl [HV0]; · iexact HV0
      iexact HsV0
    isplitl [HV1 HsV1]
    · isplitl [HV1]; · iexact HV1
      iexact HsV1
    isplitl [HV2]; · iexact HV2
    iexact HsV2
  isplitl [HO0 HO1 HO2 HsO0 HsO1 HsO2]
  · isplitl [HO0 HsO0]
    · isplitl [HO0]; · iexact HO0
      iexact HsO0
    isplitl [HO1 HsO1]
    · isplitl [HO1]; · iexact HO1
      iexact HsO1
    isplitl [HO2]; · iexact HO2
    iexact HsO2
  isplitl [HhO']; · iexact HhO'
  iintro ⟨Hq, ⟨%W', HW⟩, HK, HV, ⟨⟨HO0, HsO0⟩, ⟨HO1, HsO1⟩, HO2, HsO2⟩, Hd⟩
  ihave HK' := (ringK_done c _) $$ HK
  ihave HV' := (ringV_done c _) $$ HV
  icases HK' with ⟨HhK, ⟨HK0, HsK0⟩, ⟨HK1, HsK1⟩, HK2, HsK2⟩
  icases HV' with ⟨HhV, ⟨HV0, HsV0⟩, ⟨HV1, HsV1⟩, HV2, HsV2⟩
  isplitl [HhK HhV HK0 HK1 HK2 HsK0 HsK1 HsK2 HV0 HV1 HV2 HsV0 HsV1 HsV2 HO0 HO1 HO2 HsO0 HsO1 HsO2 Hp Hd]
  · isplitl [HsK0 HsK1 HsK2 HsV0 HsV1 HsV2 HsO0 HsO1 HsO2]
    · isplitl [HsK0 HsK1 HsK2]
      · iapply (bufK_join c)
        isplitl [HsK0]; · iexact HsK0
        isplitl [HsK1]; · iexact HsK1
        iexact HsK2
      isplitl [HsV0 HsV1 HsV2]
      · iapply (bufV_join c)
        isplitl [HsV0]; · iexact HsV0
        isplitl [HsV1]; · iexact HsV1
        iexact HsV2
      iapply (bufO_join c)
      isplitl [HsO0]; · iexact HsO0
      isplitl [HsO1]; · iexact HsO1
      iexact HsO2
    isplitl [Hp]; · iexact Hp
    isplitl [HK0 HK1 HK2 HV0 HV1 HV2 HO0 HO1 HO2]
    · isplitl [HK0 HK1 HK2]
      · isplitl [HK0]; · iexact HK0
        isplitl [HK1]; · iexact HK1
        iexact HK2
      isplitl [HV0 HV1 HV2]
      · isplitl [HV0]; · iexact HV0
        isplitl [HV1]; · iexact HV1
        iexact HV2
      isplitl [HO0]; · iexact HO0
      isplitl [HO1]; · iexact HO1
      iexact HO2
    isplitl [HhK HhV]
    · isplitl [HhK]; · iexact HhK
      iexact HhV
    rw [show finalV m c main_v1 = joined c (outAt c (keysAt m c) (valuesAt m c) k0_pay82 (queryOf c (st0_0 t) ((st0_0 t).view.rep (iblk m c 0 t))) noCarry) from by
      rw [query_read]; exact Function.update_self ..]
    iapply (done_all c (outAt c (keysAt m c) (valuesAt m c) k0_pay82 (queryOf c (st0_0 t) ((st0_0 t).view.rep (iblk m c 0 t))) noCarry))
    iexact Hd
  isplitl [HW]
  · iexists W'; isplitr; · ipureintro; exact fun _ _ => Or.inl trivial
    iexact HW
  iexists _; isplitr; · ipureintro; exact View.read_rep _ _
  iexact Hq

/-! ## The run -/

set_option backward.isDefEq.respectTransparency.types false in
/-- From any memory with zero counters: every weakly fair execution terminates; the result is `resultAt`, the arguments
    are unchanged, and every semaphore counter is at zero. -/
theorem run_main : θ_run defs (onTc (τ := τ) (main (F := F))) (s₀ m ρ)
    (fun r => (∀ c : Dev nD, r.2.mem ((c : Thread nD τ).loc main_v1) = resultAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_frame_dmaRG cfgs (dats m) (0 : Fin 1) launch0 osem defs₀ 𝒱₀ ownSemFacts readSet writeSet readSet_sub writeSet_sub m ρ main
    (hbody := fun c => (body_obligation m c).loose) (hshare := fun c => (dats m 0 c).share_full fun _ => rfl) (howed := fun _ _ => rfl)
    (V := V m) (hmain := Pipeline.hmain_prefix cfgs 0 defs₀ 𝒱₀ m main hostOps0 hostOps0_sub hostOps0_fresh main_chain)
    (hA := fun _ _ => rfl) (G := finalV m) (hin := fun c => by
      rw [show (dats m 0 c).Φ 0 = Pipeline.ΦDRG osem spec0 readSet writeSet (V m) (V m) c from rfl])
    (hout := fun c => by
      rw [show (dats m 0 c).Φ (Fin.last (cfgs 0).N) = Pipeline.ΦDRG osem spec0 readSet writeSet (V m) (finalV m) c from rfl])
    (Q' := _) (hQ' := fun r hr => ⟨fun c => ⟨(hr.1.written c (by decide)).trans (Function.update_self ..),
      ((hr.1.toR c).2 main_arg0 (by decide)).trans (V_main_arg0 m c), ((hr.1.toR c).2 main_arg1 (by decide)).trans (V_main_arg1 m c),
      ((hr.1.toR c).2 main_arg2 (by decide)).trans (V_main_arg2 m c)⟩, hr.2⟩)

end Cert.Proof.Scan

end

end
-- ==== Proof.Frames.lean ====
/-
  The frames of the kernel: as printed, and as printed for exact arithmetic.
-/
module

public import proofs.«01_k».proof.Proof.Launch
public import proofs.«01_k».proof.Proof.Gen.Kernel
public import proofs.«01_k».proof.Defs

@[expose] public section

noncomputable section

namespace Cert.Proof.Scan

open Idealize.ShloMosaic Idealize.SL.Sem

/-- The program read at exact arithmetic: it runs, and leaves its arguments and every counter as they were. -/
theorem frame_kernelIdeal : Cert.quiescent_KernelIdeal (hKernelIdeal := Cert.KernelIdeal.Gen.facts) := fun m g _ =>
  (θ_run _ _ _).mono (fun _ h => ⟨fun c => (h.1 c).2, h.2⟩) (run_main (F := Ideal) m g)

/-! The kernel as printed and the kernel printed for exact arithmetic are one program: no operation was rewritten. -/

theorem fn_eq : @Cert.Kernel.cc0_aaren_scan_pipe Bits _ _ = @Cert.KernelIdeal.cc0_aaren_scan_pipe Bits _ _ := rfl
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, a => rfl
theorem defs_eq : Cert.Kernel.defs (F := Bits) = Cert.KernelIdeal.defs (F := Bits) :=
  congrArg (Pipeline.defs Cert.KernelIdeal.pcfgs) defs₀_eq
theorem main_eq : Cert.Kernel.main (F := Bits) = Cert.KernelIdeal.main (F := Bits) := rfl

/-- A run of a program is a run of a program equal to it. -/
theorem run_of_eq {D D' : Defs Cert.KernelIdeal.nD Cert.KernelIdeal.τ Cert.KernelIdeal.sig (Elt Bits) (Pipeline.Sig Cert.KernelIdeal.Λ₀ (Fin 1) fun p => (Cert.KernelIdeal.pcfgs (F := Bits) p).Adm)}
    {M M' : Dev Cert.KernelIdeal.nD → Prog (TpuEff Cert.KernelIdeal.nD Cert.KernelIdeal.τ Cert.KernelIdeal.sig (Elt Bits) (Pipeline.Sig Cert.KernelIdeal.Λ₀ (Fin 1) fun p => (Cert.KernelIdeal.pcfgs (F := Bits) p).Adm) .tc) PUnit}
    (hd : D' = D) (hm : M' = M) {s} {Q} (h : θ_run D (onTc (τ := Cert.KernelIdeal.τ) M) s Q) : θ_run D' (onTc (τ := Cert.KernelIdeal.τ) M') s Q := by
  subst hd; subst hm; exact h

/-- What the kernel as printed leaves, at the machine's own arithmetic. -/
theorem kernel_run (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_v1) = resultAt (F := Bits) m c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  run_of_eq defs_eq main_eq (run_main (F := Bits) m g)

/-- The kernel as printed: it runs, and leaves its arguments and every counter as they were. -/
theorem frame_kernel : Cert.quiescent_Kernel (hKernel := Cert.Kernel.Gen.facts) := fun m g _ =>
  (θ_run (Cert.Kernel.defs (F := Bits)) _ _).mono (fun _ h => ⟨fun c => (h.1 c).2, h.2⟩) (kernel_run m g)

end Cert.Proof.Scan

end

end
-- ==== Proof.Weights.lean ====
/-
  Weighted sums over a growing prefix, in the extended reals: the running maximum of the scores, the sum of the weights
  `exp (score - maximum)`, the sum of the weighted values, and how the three go on from one prefix to a longer one.
  Nothing is asked of the scores or the values: they may be infinite.
-/
module

public import Idealize.ShloMosaic.PureOps.Ideal

@[expose] public section

noncomputable section

namespace Cert.Proof.Scan

open Idealize.ShloMosaic

/-- The largest of the first `n` scores (`⊥` if there is none). -/
def peak (s : ℕ → EReal) (n : ℕ) : EReal := (Finset.range n).sup s

/-- The weighted sum of the first `n` values, each weighted by `exp` of its score less the largest. -/
def total (s v : ℕ → EReal) (n : ℕ) : EReal := ∑ j ∈ Finset.range n, Ideal.exp (s j - peak s n) * v j

theorem exp_nonneg (x : EReal) : 0 ≤ Ideal.exp x := by
  induction x using EReal.rec with
  | bot => exact le_refl _
  | coe r => exact EReal.coe_nonneg.mpr (Real.exp_pos r).le
  | top => exact le_top

/-- The weight of a score that is at most the maximum it is compared with is finite. -/
theorem exp_sub_ne_top {b c : EReal} (h : b ≤ c) : Ideal.exp (b - c) ≠ ⊤ := by
  induction b using EReal.rec with
  | bot => rw [sub_eq_add_neg, EReal.bot_add]; exact EReal.zero_ne_top
  | top =>
    obtain rfl : c = ⊤ := top_le_iff.mp h
    rw [sub_eq_add_neg, EReal.neg_top, EReal.add_bot]; exact EReal.zero_ne_top
  | coe r =>
    induction c using EReal.rec with
    | bot => exact absurd h (by simp)
    | top => rw [sub_eq_add_neg, EReal.neg_top, EReal.add_bot]; exact EReal.zero_ne_top
    | coe t => rw [← EReal.coe_sub]; exact EReal.coe_ne_top _

/-- Moving a weight from one maximum to a larger one is a multiplication. -/
theorem exp_sub_mul {a b c : EReal} (hab : a ≤ b) (hbc : b ≤ c) :
    Ideal.exp (b - c) * Ideal.exp (a - b) = Ideal.exp (a - c) := by
  have zero : Ideal.exp ⊥ = 0 := rfl
  have botS : ∀ x : EReal, ⊥ - x = ⊥ := fun x => by rw [sub_eq_add_neg, EReal.bot_add]
  have topS : ∀ x : EReal, x - ⊤ = ⊥ := fun x => by rw [sub_eq_add_neg, EReal.neg_top, EReal.add_bot]
  by_cases hc : c = ⊤
  · subst hc; rw [topS, topS, zero, zero_mul]
  by_cases ha : a = ⊥
  · subst ha; rw [botS, botS, zero, mul_zero]
  have hb : b ≠ ⊤ := fun h => hc (top_le_iff.mp (h ▸ hbc))
  have hb' : b ≠ ⊥ := fun h => ha (le_bot_iff.mp (h ▸ hab))
  have ha' : a ≠ ⊤ := fun h => hb (top_le_iff.mp (h ▸ hab))
  have hc' : c ≠ ⊥ := fun h => hb' (le_bot_iff.mp (h ▸ hbc))
  lift a to ℝ using ⟨ha', ha⟩
  lift b to ℝ using ⟨hb, hb'⟩
  lift c to ℝ using ⟨hc, hc'⟩
  rw [← EReal.coe_sub, ← EReal.coe_sub, ← EReal.coe_sub]
  show ((Real.exp _ : ℝ) : EReal) * ((Real.exp _ : ℝ) : EReal) = ((Real.exp _ : ℝ) : EReal)
  rw [← EReal.coe_mul, ← Real.exp_add]
  congr 2; ring

/-- A finite nonnegative factor goes into a sum, whatever the sum's terms are. -/
theorem mul_sum_of_nonneg {c : EReal} (h0 : 0 ≤ c) (h1 : c ≠ ⊤) {ι : Type} (t : Finset ι) (f : ι → EReal) :
    c * ∑ j ∈ t, f j = ∑ j ∈ t, c * f j := by
  classical
  induction t using Finset.induction_on with
  | empty => simp
  | insert a t ha ih => rw [Finset.sum_insert ha, Finset.sum_insert ha, EReal.left_distrib_of_nonneg_of_ne_top h0 h1, ih]

theorem le_peak (s : ℕ → EReal) {j n : ℕ} (h : j < n) : s j ≤ peak s n :=
  Finset.le_sup (f := s) (Finset.mem_range.mpr h)

theorem peak_zero (s : ℕ → EReal) : peak s 0 = ⊥ := rfl

theorem total_zero (s v : ℕ → EReal) : total s v 0 = 0 := rfl

/-- The largest of `n + r` scores: of the last `r` and of the first `n`. -/
theorem peak_add (s : ℕ → EReal) (n r : ℕ) :
    peak s (n + r) = max ((Finset.range r).sup fun j => s (n + j)) (peak s n) := by
  induction r with
  | zero => simp [peak]
  | succ r ih =>
    have h : ∀ k, peak s (k + 1) = max (s k) (peak s k) := fun k => by
      unfold peak; rw [Finset.range_add_one, Finset.sup_insert]
    rw [← Nat.add_assoc, h, ih, Finset.range_add_one, Finset.sup_insert]
    exact (max_assoc _ _ _).symm

theorem peak_mono (s : ℕ → EReal) (n r : ℕ) : peak s n ≤ peak s (n + r) := by
  rw [peak_add]; exact le_max_right _ _

/-- The weighted sum of `n + r` values: of the last `r`, and that of the first `n` moved to the new maximum. -/
theorem total_add (s v : ℕ → EReal) (n r : ℕ) :
    total s v (n + r) = (∑ j ∈ Finset.range r, Ideal.exp (s (n + j) - peak s (n + r)) * v (n + j))
      + Ideal.exp (peak s n - peak s (n + r)) * total s v n := by
  have hm := peak_mono s n r
  conv_lhs => rw [total, Finset.sum_range_add]
  rw [add_comm, total, mul_sum_of_nonneg (exp_nonneg _) (exp_sub_ne_top hm)]
  congr 1
  refine Finset.sum_congr rfl fun j hj => ?_
  rw [← mul_assoc, exp_sub_mul (le_peak s (Finset.mem_range.mp hj)) hm]

/-- A maximum over all of `N` places in which the places from `r` on hold `⊥`. -/
theorem fold_max_masked {N : ℕ} (r : ℕ) (hr : r ≤ N) (f : ℕ → EReal) :
    Finset.univ.fold max (⊥ : EReal) (fun k : Fin N => if k.val < r then f k.val else ⊥) = (Finset.range r).sup f := by
  show Finset.univ.sup (fun k : Fin N => if k.val < r then f k.val else ⊥) = _
  apply le_antisymm
  · refine Finset.sup_le fun k _ => ?_
    split
    · next h => exact Finset.le_sup (f := f) (Finset.mem_range.mpr h)
    · exact bot_le
  · refine Finset.sup_le fun j hj => ?_
    have hj := Finset.mem_range.mp hj
    refine le_trans (le_of_eq ?_) (Finset.le_sup (f := fun k : Fin N => if k.val < r then f k.val else ⊥) (Finset.mem_univ (⟨j, by omega⟩ : Fin N)))
    exact (if_pos hj).symm

/-- A sum over all of `N` places in which the places from `r` on hold `0`. -/
theorem sum_masked {N : ℕ} (r : ℕ) (hr : r ≤ N) (f : ℕ → EReal) :
    ∑ k : Fin N, (if k.val < r then f k.val else 0) = ∑ j ∈ Finset.range r, f j := by
  rw [Fin.sum_univ_eq_sum_range (fun j => if j < r then f j else 0) N, ← Finset.sum_filter]
  congr 1
  ext j
  simp only [Finset.mem_filter, Finset.mem_range]
  omega

end Cert.Proof.Scan

end
-- ==== Proof.Chunk.lean ====
/-
  One chunk of 512 rows, in exact arithmetic: if the carry holds the largest score, the sum of weights and the weighted sums
  of the first `n` rows, the chunk writes the quotients of its rows and carries the same three of the first `n + 512`.
-/
module

public import proofs.«01_k».proof.Proof.Step
public import proofs.«01_k».proof.Proof.Weights
public import Idealize.ShloMosaic.Lib.Pointwise

@[expose] public section

set_option maxRecDepth 16384

noncomputable section

namespace Cert.Proof.Scan

open Cert.KernelIdeal Cert.KernelIdeal.Gen
open Idealize.ShloMosaic

/-- A choice by a signed comparison of two small counts. -/
theorem select_sle {α : Type} {a b : ℕ} (ha : a < 2 ^ 31) (hb : b < 2 ^ 31) (x y : α) :
    Scalar.select (IntOp.cmpi .sle (BitVec.ofNat 32 a) (BitVec.ofNat 32 b)) x y = if a < b + 1 then x else y := by
  have e : ∀ n, n < 2 ^ 31 → (BitVec.ofNat 32 n).toInt = n := fun n hn => by
    rw [BitVec.toInt_eq_toNat_of_lt] <;> rw [BitVec.toNat_ofNat, Nat.mod_eq_of_lt] <;> omega
  have h : (BitVec.ofNat 32 a).sle (BitVec.ofNat 32 b) = decide (a < b + 1) := by
    rw [BitVec.sle_eq_decide, e a ha, e b hb]
    by_cases hab : a < b + 1
    · rw [decide_eq_true hab, decide_eq_true]; omega
    · rw [decide_eq_false hab, decide_eq_false]; omega
  show (if BitVec.ofBool ((BitVec.ofNat 32 a).sle (BitVec.ofNat 32 b)) = 1#1 then x else y) = _
  rw [h]
  by_cases hab : a < b + 1 <;> simp [hab]

/-- The printed pattern of minus infinity. -/
theorem neg_inf : Ideal.ofBits .f32 0xFF800000#32 = ⊥ := by
  simp [Ideal.ofBits, Ideal.ieee]

/-- The mask of a chunk at row `r` and place `k`: is `k` at most `r`? -/
theorem mask_at (r k : Fin 512) : k0_pay82 (ix2 r k) = IntOp.cmpi .sle (BitVec.ofNat 32 k.val) (BitVec.ofNat 32 r.val) := by
  pointwise [k0_pay82]

/-- A chunk holds the scores and the values of the rows from `n` on. -/
structure Holds (s : ℕ → EReal) (w : Fin 256 → ℕ → EReal) (n : ℕ) (S : FVec Ideal S512x512 .f32) (V : FVec Ideal S512x256 .f32) : Prop where
  score : ∀ r k : Fin 512, S (ix2 r k) = s (n + k.val)
  value : ∀ (k : Fin 512) (d : Fin 256), V (ix2 k d) = w d (n + k.val)

/-- The carry holds the three running quantities of the first `n` rows. -/
structure Carried (s : ℕ → EReal) (w : Fin 256 → ℕ → EReal) (n : ℕ) (a : Carry Ideal) : Prop where
  top : a.1 (ix2 0 0) = peak s n
  mass : a.2.1 (ix2 0 0) = total s (fun _ => 1) n
  sums : ∀ d : Fin 256, a.2.2 (ix2 0 d) = total s (w d) n

section
variable {s : ℕ → EReal} {w : Fin 256 → ℕ → EReal} {n : ℕ} {S : FVec Ideal S512x512 .f32} {V : FVec Ideal S512x256 .f32} {a : Carry Ideal}

/-- The largest score up to row `r` of the chunk. -/
theorem chunk_peak (hS : Holds s w n S V) (ha : Carried s w n a) (r : Fin 512) :
    k0_pay5 k0_pay82 a.1 S k0_pay4 (ix2 r 0) = peak s (n + (r.val + 1)) := by
  pointwise [k0_pay5, k0_pay82, k0_pay4]
  rw [neg_inf, ha.top, peak_add, ← fold_max_masked (N := 512) (r.val + 1) r.isLt]
  congr 2
  funext k
  rw [select_sle (by omega) (by omega), hS.score]

/-- The weight of row `k` of the chunk among the rows up to `r`. -/
theorem chunk_weight (hS : Holds s w n S V) (ha : Carried s w n a) (r k : Fin 512) :
    k0_pay6 k0_pay82 a.1 S k0_pay4 (ix2 r k)
      = if k.val < r.val + 1 then Ideal.exp (s (n + k.val) - peak s (n + (r.val + 1))) else 0 := by
  pointwise [k0_pay6]
  rw [mask_at, select_sle (by omega) (by omega), chunk_peak hS ha, hS.score]

/-- The factor that moves the carried sums to the maximum at row `r`. -/
theorem chunk_factor (hS : Holds s w n S V) (ha : Carried s w n a) (r : Fin 512) :
    k0_pay7 k0_pay82 a.1 S k0_pay4 (ix2 r 0) = Ideal.exp (peak s n - peak s (n + (r.val + 1))) := by
  pointwise [k0_pay7]
  rw [chunk_peak hS ha, ha.top]

/-- The sum of weights at row `r`. -/
theorem chunk_mass (hS : Holds s w n S V) (ha : Carried s w n a) (r : Fin 512) :
    k0_pay8 k0_pay82 a.1 a.2.1 S k0_pay4 (ix2 r 0) = total s (fun _ => 1) (n + (r.val + 1)) := by
  pointwise [k0_pay8]
  rw [chunk_factor hS ha, ha.mass, total_add, ← sum_masked (N := 512) (r.val + 1) r.isLt]
  congr 1
  refine Finset.sum_congr rfl fun k _ => ?_
  rw [chunk_weight hS ha, mul_one]

/-- The weighted sum of column `d` of the values at row `r`. -/
theorem chunk_sums (hS : Holds s w n S V) (ha : Carried s w n a) (r : Fin 512) (d : Fin 256) :
    k0_pay9 k0_pay82 a.1 a.2.2 V S k0_pay4 (ix2 r d) = total s (w d) (n + (r.val + 1)) := by
  pointwise [k0_pay9]
  rw [chunk_factor hS ha, ha.sums, total_add, ← sum_masked (N := 512) (r.val + 1) r.isLt]
  congr 1
  refine Finset.sum_congr rfl fun k _ => ?_
  rw [chunk_weight hS ha, hS.value, ite_mul, zero_mul]

/-- What a chunk writes in row `r`: the quotient of the weighted sums by the sum of weights. -/
theorem chunkOut_at (hS : Holds s w n S V) (ha : Carried s w n a) (r : Fin 512) (d : Fin 256) :
    chunkOut k0_pay82 S V a (ix2 r d) = Ideal.div (total s (w d) (n + (r.val + 1))) (total s (fun _ => 1) (n + (r.val + 1))) := by
  unfold chunkOut
  pointwise [k0_pay10]
  rw [chunk_sums hS ha, chunk_mass hS ha]

/-- What a chunk carries on. -/
theorem chunkNext_carried (hS : Holds s w n S V) (ha : Carried s w n a) :
    Carried s w (n + 512) (chunkNext k0_pay82 S V a) where
  top := by
    unfold chunkNext
    pointwise [k0_pay11]
    exact chunk_peak hS ha 511
  mass := by
    unfold chunkNext
    pointwise [k0_pay12]
    exact chunk_mass hS ha 511
  sums d := by
    unfold chunkNext
    pointwise [k0_pay13]
    exact chunk_sums hS ha 511 d

end

end Cert.Proof.Scan

end
-- ==== Proof.Values.lean ====
/-
  What the kernel's result holds, in exact arithmetic: row `i` is the weighted sum of the first `i + 1` rows of values
  divided by the sum of the first `i + 1` weights. Chunks make a block, blocks make the whole.
-/
module

public import proofs.«01_k».proof.Proof.Chunk
public import proofs.«01_k».proof.Proof.Launch
public import Idealize.ShloMosaic.Lib.Claim

@[expose] public section

set_option maxRecDepth 16384

noncomputable section

namespace Cert.Proof.Scan

open Cert.KernelIdeal Cert.KernelIdeal.Gen
open Idealize.ShloMosaic
open Idealize.ShloMosaic.TcCoe

/-- The score of row `j`: the query against key `j`. -/
def scoreOf (K : S131072x256.Idx → EReal) (q : Fin 256 → EReal) (j : ℕ) : EReal :=
  if h : j < 131072 then ∑ d : Fin 256, q d * K (ix2 ⟨j, h⟩ d) else 0
/-- Column `d` of row `j` of the values. -/
def valueOf (V : S131072x256.Idx → EReal) (d : Fin 256) (j : ℕ) : EReal :=
  if h : j < 131072 then V (ix2 ⟨j, h⟩ d) else 0
/-- The quotient of the first `n` rows. -/
def quotient (s : ℕ → EReal) (v : ℕ → EReal) (n : ℕ) : EReal := Ideal.div (total s v n) (total s (fun _ => 1) n)

/-! ### A block of eight chunks -/

section Block
variable {s : ℕ → EReal} {w : Fin 256 → ℕ → EReal} {n : ℕ} {S : Fin 8 → FVec Ideal S512x512 .f32} {V : Fin 8 → FVec Ideal S512x256 .f32}
  {a : Carry Ideal}

/-- What is carried into chunk `k` of a block. -/
theorem carryIn_carried (h : ∀ i : Fin 8, Holds s w (n + 512 * i.val) (S i) (V i)) (ha : Carried s w n a) :
    ∀ k, k ≤ 8 → Carried s w (n + 512 * k) (carryIn k0_pay82 S V a k)
  | 0, _ => ha
  | k + 1, hk => by
    have hi := h (Fin.ofNat 8 k)
    rw [show (Fin.ofNat 8 k).val = k from Nat.mod_eq_of_lt hk] at hi
    exact chunkNext_carried hi (carryIn_carried h ha k (by omega))

/-- Row `r` of the block of the result. -/
theorem outBlock_at (h : ∀ i : Fin 8, Holds s w (n + 512 * i.val) (S i) (V i)) (ha : Carried s w n a) (r : Fin 4096) (d : Fin 256) :
    outBlock k0_pay82 S V a (ix2 r d) = quotient s (w d) (n + r.val + 1) := by
  have hr := r.isLt
  have hi := h ⟨r.val / 512, by omega⟩
  have e := chunkOut_at hi (carryIn_carried h ha (r.val / 512) (by omega)) ⟨r.val % 512, Nat.mod_lt _ (by decide)⟩ d
  rw [show n + 512 * (r.val / 512) + (r.val % 512 + 1) = n + r.val + 1 by omega] at e
  refine Eq.trans ?_ e
  rfl

end Block

/-! ### The blocks of the run -/

section Blocks
variable (c : Dev nD) (XK : Buf (Elt Ideal) (aK.view.loc (c : Thread nD τ))) (XV : Buf (Elt Ideal) (aV.view.loc (c : Thread nD τ)))
  (v4 : FVec Ideal S1x256 .f32)

/-- The chunks of block `b` hold the scores and the values of its rows. -/
theorem block_holds (b : Fin 32) (i : Fin 8) :
    Holds (scoreOf XK fun d => v4 (ix2 0 d)) (valueOf XV) (4096 * b.val + 512 * i.val) (scoresOf c XK v4 b i) (valuesOf c XV b i) where
  score r k := by
    have hb := b.isLt; have hi := i.isLt; have hk := k.isLt
    unfold scoresOf
    pointwise [chunkScores, blockScores]
    rw [scoreOf, dif_pos (by omega)]
    refine Finset.sum_congr rfl fun d _ => ?_
    congr 1
    show XK _ = XK _
    congr 1
    funext x
    apply Fin.ext
    fin_cases x
    · show 4096 * b.val + 1 * (512 * i.val + k.val) = 4096 * b.val + 512 * i.val + k.val; omega
    · show 0 + 1 * d.val = d.val; omega
  value k d := by
    have hb := b.isLt; have hi := i.isLt; have hk := k.isLt
    rw [valueOf, dif_pos (by omega)]
    show XV _ = XV _
    congr 1
    funext x
    apply Fin.ext
    fin_cases x
    · show 4096 * b.val + 1 * (512 * i.val + k.val) = 4096 * b.val + 512 * i.val + k.val; omega
    · show 0 + 1 * d.val = d.val; omega

/-- Before the first block nothing is carried. -/
theorem noCarry_carried (s : ℕ → EReal) (w : Fin 256 → ℕ → EReal) : Carried s w 0 (noCarry (F := Ideal)) where
  top := by unfold noCarry; pointwise [k0_pay84]; exact neg_inf
  mass := by unfold noCarry; pointwise [k0_pay85]; exact (total_zero _ _).symm
  sums d := by unfold noCarry; pointwise [k0_pay1]; exact (total_zero _ _).symm

/-- What the first `n` blocks carry on. -/
theorem carryAt_carried : ∀ n, n ≤ 32 →
    Carried (scoreOf XK fun d => v4 (ix2 0 d)) (valueOf XV) (4096 * n) (carryAt c XK XV k0_pay82 v4 noCarry n)
  | 0, _ => noCarry_carried _ _
  | n + 1, hn => by
    have h := carryIn_carried (fun i => block_holds c XK XV v4 (Ring.bk 32 n) i) (by rw [Ring.bk_val (by omega)]; exact carryAt_carried n (by omega)) 8 (le_refl 8)
    rw [Ring.bk_val (by omega)] at h
    exact h

/-- Row `r` of block `n`. -/
theorem outAt_at (n : ℕ) (hn : n < 32) (r : Fin 4096) (d : Fin 256) :
    outAt c XK XV k0_pay82 v4 noCarry n (ix2 r d)
      = quotient (scoreOf XK fun d => v4 (ix2 0 d)) (valueOf XV d) (4096 * n + r.val + 1) := by
  have h := outBlock_at (fun i => block_holds c XK XV v4 (Ring.bk 32 n) i) (by rw [Ring.bk_val hn]; exact carryAt_carried c XK XV v4 n (by omega)) r d
  rw [Ring.bk_val hn] at h
  exact h

end Blocks

/-- The kernel's result at row `i`, column `d`. -/
theorem resultAt_at (m : (ℓ : Loc nD τ sig) → Buf (Elt Ideal) ℓ) (c : Dev nD) (i : Fin 131072) (d : Fin 256) :
    (resultAt m c : S131072x256.Idx → EReal) (ix2 i d)
      = quotient (scoreOf (m ((c : Thread nD τ).loc main_arg0)) fun d => (m ((c : Thread nD τ).loc main_arg2) : S256.Idx → EReal) (ix1 d))
          (valueOf (m ((c : Thread nD τ).loc main_arg1)) d) (i.val + 1) := by
  have hi := i.isLt
  have q : (fun d : Fin 256 => queryAt m c (ix2 0 d)) = fun d => (m ((c : Thread nD τ).loc main_arg2) : S256.Idx → EReal) (ix1 d) := by
    funext d
    unfold queryAt
    entry_read
    pointwise [k0_pay83]
  have e := outAt_at c (keysAt m c) (valuesAt m c) (queryAt m c) (i.val / 4096) (by omega) ⟨i.val % 4096, Nat.mod_lt _ (by decide)⟩ d
  rw [q, show 4096 * (i.val / 4096) + i.val % 4096 + 1 = i.val + 1 by omega] at e
  rw [show keysAt m c = m ((c : Thread nD τ).loc main_arg0) from V_main_arg0 m c, show valuesAt m c = m ((c : Thread nD τ).loc main_arg1) from V_main_arg1 m c] at e
  refine Eq.trans ?_ e
  rfl

end Cert.Proof.Scan

end
-- ==== Proof.Reference.lean ====
/-
  What the reference computes, in exact arithmetic: the scores, their running maxima, the table of weights, and the quotient
  of its product with the values by its row sums. Row `i` of the result is `quotient` of the first `i + 1` rows.
-/
module

public import proofs.«01_k».proof.Proof.Gen.ReferenceIdeal.Run
public import proofs.«01_k».proof.Proof.Values

@[expose] public section

set_option maxRecDepth 16384

noncomputable section

namespace Cert.Proof.Scan

open Cert.ReferenceIdeal Cert.ReferenceIdeal.Gen
open Idealize.ShloMosaic Idealize.ShloMosaic.TcCoe Idealize.ShloMosaic.StableHlo Idealize.SL.Sem

/-! ### The four steps, as printed -/

/-- Every key against the query. -/
def refScores (K : FVec Ideal S131072x256 .f32) (q : FVec Ideal S256 .f32) : FVec Ideal S131072 .f32 :=
  Host.dotGeneral dot_S131072x256_S256_S131072_1_0_0_n_n_n none K q
/-- What a running maximum starts from: minus infinity. -/
def lowest : FVec Ideal S_ .f32 := broadcastInDim S_ ![] bcast_S_S_ (constant S_ .f32 0xFF800000#32)
/-- The running maxima of the scores. -/
def refPeaks (s : FVec Ideal S131072 .f32) : FVec Ideal S131072 .f32 :=
  Host.reduceWindow FloatOps.maximumf ![131072] ![1] ![131071] ![0] s lowest
    reduceWindows_S131072_S131072_w131072s1p131071_0 h_S_
/-- The table of weights: row `i` holds those of the rows up to `i`, and `0` after. -/
def refWeights (s p : FVec Ideal S131072 .f32) : FVec Ideal S131072x131072 .f32 :=
  select (cmpi .sle (iotaInDim S131072x131072 32 1) (iotaInDim S131072x131072 32 0))
    (Host.exp (subf (broadcastInDim S131072x131072 ![0, 1] bcast_S1x131072_S131072x131072_0_1 (broadcastInDim S1x131072 ![1] bcast_S131072_S1x131072_1 s))
      (broadcastInDim S131072x131072 ![0, 1] bcast_S131072x1_S131072x131072_0_1 (broadcastInDim S131072x1 ![0] bcast_S131072_S131072x1_0 p))))
    (broadcastInDim S131072x131072 ![] bcast_S_S131072x131072 (constant S_ .f32 0x00000000#32))
/-- The product of the table with the values, each row divided by the table's row sum. -/
def refResult (w : FVec Ideal S131072x131072 .f32) (V : FVec Ideal S131072x256 .f32) : FVec Ideal S131072x256 .f32 :=
  Host.divf (Host.dotGeneral dot_S131072x131072_S131072x256_S131072x256_1_0_0_1_n_n none w V)
    (broadcastInDim S131072x256 ![0, 1] bcast_S131072x1_S131072x256_0_1 (broadcastInDim S131072x1 ![0] bcast_S131072_S131072x1_0
      (Host.reduceAdd w (constant S_ .f32 0x00000000#32) reducesTo_S131072x131072_S131072_d1 h_S_)))
/-- The whole. -/
def refWhole (K V : FVec Ideal S131072x256 .f32) (q : FVec Ideal S256 .f32) : FVec Ideal S131072x256 .f32 :=
  refResult (refWeights (refScores K q) (refPeaks (refScores K q))) V

/-! ### Each step at an index -/

theorem refScores_at (K : FVec Ideal S131072x256 .f32) (q : FVec Ideal S256 .f32) (i : Fin 131072) :
    refScores K q (ix1 i) = scoreOf K (fun d => q (ix1 d)) i.val := by
  pointwise [refScores]
  rw [scoreOf, dif_pos i.isLt]
  exact Finset.sum_congr rfl fun d _ => mul_comm _ _

/-- A fold of maxima is at most `b` exactly when its start and all its terms are. -/
theorem foldl_max_le {ι : Type} (f : ι → EReal) (b : EReal) : ∀ (l : List ι) (v : EReal),
    l.foldl (fun r n => max r (f n)) v ≤ b ↔ v ≤ b ∧ ∀ n ∈ l, f n ≤ b
  | [], v => by simp
  | n :: l, v => by
    rw [List.foldl_cons, foldl_max_le f b l, max_le_iff, List.forall_mem_cons, and_assoc]

/-- A window as long as the vector, padded low by one less: the result at `i` is the largest of the entries up to `i`. -/
theorem running_max {N M : ℕ} (hN : M + 1 = N) (x : (⟨1, ![N]⟩ : Shape).Idx → EReal) (s : ℕ → EReal)
    (hx : ∀ j : Fin N, x (ix1 j) = s j.val) {u : Shape} (init : u.Idx → EReal) (hu : 0 < u.numel) (hinit : init (Shape.Idx.first hu) = ⊥)
    (h : (⟨1, ![N]⟩ : Shape).ReduceWindows (![N] : Fin 1 → ℕ) ![1] ![M] ![0] ⟨1, ![N]⟩) (i : Fin N) :
    Host.reduceWindow (s := ⟨1, ![N]⟩) (t := ⟨1, ![N]⟩) (fun a b : EReal => max a b) ![N] ![1] ![M] ![0] x init h hu (ix1 i) = peak s (i.val + 1) := by
  have hi := i.isLt
  refine eq_of_forall_ge_iff fun b => ?_
  unfold Host.reduceWindow
  rw [foldl_max_le, hinit, peak, Finset.sup_le_iff]
  constructor
  · rintro ⟨-, hb⟩ j hj
    have hj : j < i.val + 1 := Finset.mem_range.mp hj
    obtain ⟨n, hn⟩ := (⟨1, ![N]⟩ : Shape).rowMajor.symm.surjective (ix1 (⟨j + M - i.val, by omega⟩ : Fin N))
    have hw : ((⟨1, ![N]⟩ : Shape).rowMajor.symm n 0).val = j + M - i.val := by rw [hn]; rfl
    have h1 := hb n (List.mem_finRange _)
    rw [dif_pos (by
      intro a
      fin_cases a
      show M ≤ i.val * 1 + ((⟨1, ![N]⟩ : Shape).rowMajor.symm n 0).val ∧ i.val * 1 + ((⟨1, ![N]⟩ : Shape).rowMajor.symm n 0).val - M < N
      omega)] at h1
    refine le_trans (le_of_eq ?_) h1
    refine (hx ⟨j, by omega⟩).symm.trans (congrArg x ?_)
    funext a
    fin_cases a
    apply Fin.ext
    show j = i.val * 1 + ((⟨1, ![N]⟩ : Shape).rowMajor.symm n 0).val - M
    omega
  · intro hb
    refine ⟨bot_le, fun n _ => ?_⟩
    split
    · next hin =>
      have h0 : M ≤ i.val * 1 + ((⟨1, ![N]⟩ : Shape).rowMajor.symm n 0).val ∧ i.val * 1 + ((⟨1, ![N]⟩ : Shape).rowMajor.symm n 0).val - M < N := hin 0
      have hy : ((⟨1, ![N]⟩ : Shape).rowMajor.symm n 0).val < N := ((⟨1, ![N]⟩ : Shape).rowMajor.symm n 0).isLt
      refine le_trans (le_of_eq ?_) (hb (i.val * 1 + ((⟨1, ![N]⟩ : Shape).rowMajor.symm n 0).val - M) (Finset.mem_range.mpr (by omega)))
      refine Eq.trans (congrArg x ?_) (hx ⟨_, h0.2⟩)
      funext a
      fin_cases a
      rfl
    · exact bot_le

theorem lowest_at : lowest (Shape.Idx.first h_S_) = (⊥ : EReal) := neg_inf

theorem refPeaks_at (S : FVec Ideal S131072 .f32) (s : ℕ → EReal) (hS : ∀ j : Fin 131072, S (ix1 j) = s j.val) (i : Fin 131072) :
    refPeaks S (ix1 i) = peak s (i.val + 1) :=
  running_max (N := 131072) (M := 131071) (by omega) S s hS (u := S_) lowest h_S_ lowest_at reduceWindows_S131072_S131072_w131072s1p131071_0 i

theorem refWeights_at (S : FVec Ideal S131072 .f32) (s : ℕ → EReal) (hS : ∀ j : Fin 131072, S (ix1 j) = s j.val) (i j : Fin 131072) :
    refWeights S (refPeaks S) (ix2 i j) = if j.val < i.val + 1 then Ideal.exp (s j.val - peak s (i.val + 1)) else 0 := by
  pointwise [refWeights]
  rw [select_sle (by omega) (by omega), hS, refPeaks_at S s hS]

/-- The reference at row `i`, column `d`. -/
theorem refWhole_at (K V : FVec Ideal S131072x256 .f32) (q : FVec Ideal S256 .f32) (i : Fin 131072) (d : Fin 256) :
    refWhole K V q (ix2 i d) = quotient (scoreOf K fun d => q (ix1 d)) (valueOf V d) (i.val + 1) := by
  unfold refWhole
  pointwise [refResult]
  unfold quotient total
  refine congrArg₂ Ideal.div ?_ ?_
  · rw [← sum_masked (N := 131072) (i.val + 1) i.isLt]
    refine Finset.sum_congr rfl fun j _ => ?_
    rw [refWeights_at _ _ (refScores_at K q), ite_mul, zero_mul, valueOf, dif_pos j.isLt]
  · rw [← sum_masked (N := 131072) (i.val + 1) i.isLt]
    refine Finset.sum_congr rfl fun j _ => ?_
    rw [refWeights_at _ _ (refScores_at K q), mul_one]

/-- A run of the reference ends with the result at `refWhole` of the arguments, and the arguments as they were. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
          = refWhole (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Proof.Scan

end
-- ==== Proof.Equation.lean ====
/-
  The equation: from the same arguments the kernel and the reference leave the same result, at exact arithmetic; and the frame
  of the reference.
-/
module

public import proofs.«01_k».proof.Proof.Reference
public import proofs.«01_k».proof.Defs

@[expose] public section

noncomputable section

namespace Cert.Proof.Scan

open Idealize.ShloMosaic Idealize.ShloMosaic.TcCoe Idealize.SL.Sem

/-- The reference runs, and leaves its arguments and every counter as they were: it has no counter. -/
theorem frame_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (reference_run m g)

/-- The kernel's result is the reference's function of the arguments. -/
theorem same_result (m : (ℓ : Loc Cert.KernelIdeal.nD Cert.KernelIdeal.τ Cert.KernelIdeal.sig) → Buf (Elt Ideal) ℓ) (c : Dev Cert.KernelIdeal.nD) :
    (resultAt m c : Cert.ReferenceIdeal.S131072x256.Idx → EReal)
      = refWhole (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  funext y
  obtain ⟨i, d, rfl⟩ : ∃ (i : Fin 131072) (d : Fin 256), y = ix2 i d := ⟨y 0, y 1, eq_ix2 y⟩
  rw [refWhole_at]
  exact resultAt_at m c i d

/-- Kernel and reference compute the same function over the extended reals. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => resultAt m c, (θ_run _ _ _).mono (fun _ h => h.1) (run_main (F := Ideal) m g), ?_⟩
  refine (θ_run Cert.ReferenceIdeal.defs _ _).mono (fun _ h c => ⟨(h c).1.trans ?_, (h c).2⟩) (reference_run m' g')
  rw [(hm c).1, (hm c).2.1, (hm c).2.2]
  exact (same_result m c).symm

end Cert.Proof.Scan

end
-- ==== Proof.lean ====
/-
  The certificate's claim, from its five parts: the frames of the kernel, of the kernel at exact arithmetic and of the
  reference; that the idealization rewrote nothing; and that kernel and reference compute the same function.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts,
    Scan.frame_kernel, Scan.frame_kernelIdeal, Scan.frame_referenceIdeal, trivial, Scan.algebraic⟩

end Cert.Proof

end
